-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_table_scaled [hPre_in_table_scaled : Cert.Pre_in_table_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_scaled [hPre_in_table_scaled : Cert.Pre_in_table_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_table_scaled [hKernelIdeal : Cert.KernelIdeal.Facts] [hPre_in_table_scaled : Cert.Pre_in_table_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_scaled m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_table_scaled [hReferenceIdeal : Cert.ReferenceIdeal.Facts] [hPre_in_table_scaled : Cert.Pre_in_table_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_table_scaled [hKernelIdeal : Cert.KernelIdeal.Facts] [hReferenceIdeal : Cert.ReferenceIdeal.Facts] [hPre_in_table_scaled : Cert.Pre_in_table_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_table : Cert.Pre_in_table.Facts) (hPre_in_table_scaled : Cert.Pre_in_table_scaled.Facts),
    quiescent_Kernel (hKernel := hKernel) (hPre_in_table := hPre_in_table)
    ∧ quiescent_KernelIdeal (hKernelIdeal := hKernelIdeal) (hPre_in_table := hPre_in_table)
    ∧ quiescent_KernelIdeal_pre_in_table_scaled (hKernelIdeal := hKernelIdeal) (hPre_in_table_scaled := hPre_in_table_scaled)
    ∧ quiescent_ReferenceIdeal (hReferenceIdeal := hReferenceIdeal)
    ∧ quiescent_ReferenceIdeal_pre_in_table_scaled (hReferenceIdeal := hReferenceIdeal) (hPre_in_table_scaled := hPre_in_table_scaled)
    ∧ preserves_Kernel_KernelIdeal
    ∧ algebraic_KernelIdeal_ReferenceIdeal_pre_in_table_scaled (hKernelIdeal := hKernelIdeal) (hReferenceIdeal := hReferenceIdeal) (hPre_in_table_scaled := hPre_in_table_scaled)
-- ==== Pre_in_table.lean ====
abbrev S100000x4 : Shape := ⟨2, ![100000, 4]⟩
abbrev S4x2x384x384x8 : Shape := ⟨5, ![4, 2, 384, 384, 8]⟩
abbrev S1 : Shape := ⟨1, ![1]⟩
abbrev S4x1x384x384x8 : Shape := ⟨5, ![4, 1, 384, 384, 8]⟩
abbrev S4x384x384x8 : Shape := ⟨4, ![4, 384, 384, 8]⟩
abbrev S_ : Shape := ⟨0, ![]⟩

class Facts : Prop where
  slices_S4x2x384x384x8_S4x1x384x384x8_0_1_0_0_0 : S4x2x384x384x8.Slices ![0, 1, 0, 0, 0] S4x1x384x384x8
  shapeCasts_S4x1x384x384x8_S4x384x384x8 : S4x1x384x384x8.ShapeCasts S4x384x384x8
  bcast_S_S4x384x384x8 : S_.BroadcastsInDim S4x384x384x8 (![] : Fin 0 → Fin S4x384x384x8.rank)
  reducesTo_S4x384x384x8_S_d0_1_2_3 : S4x384x384x8.ReducesTo [0, 1, 2, 3] S_
  h_S_ : 0 < S_.numel

variable [Facts]

def fn {F : FTy → Type} [FloatOps F] (main_arg0 : FVec F S100000x4 .f32) (main_arg1 : FVec F S4x2x384x384x8 .f32) (main_arg2 : FVec F S1 .f32) : IVec S_ 1 :=
  let main_v0 : FVec F S4x1x384x384x8 .f32 := (extractStridedSlice S4x1x384x384x8 ![0, 1, 0, 0, 0] · slices_S4x2x384x384x8_S4x1x384x384x8_0_1_0_0_0) main_arg1
  let main_v1 : FVec F S4x384x384x8 .f32 := shapeCast S4x384x384x8 main_v0 shapeCasts_S4x1x384x384x8_S4x384x384x8
  let main_v2 : IVec S4x384x384x8 32 := fptosi 32 main_v1
  let main_c : IVec S_ 32 := constantI S_ 32 0#32
  let main_v3 : IVec S4x384x384x8 32 := broadcastInDim S4x384x384x8 ![] bcast_S_S4x384x384x8 main_c
  let main_v4 : IVec S4x384x384x8 1 := cmpi .sge main_v2 main_v3
  let main_c_0 : IVec S_ 32 := constantI S_ 32 100000#32
  let main_v5 : IVec S4x384x384x8 32 := broadcastInDim S4x384x384x8 ![] bcast_S_S4x384x384x8 main_c_0
  let main_v6 : IVec S4x384x384x8 1 := cmpi .slt main_v2 main_v5
  let main_v7 : IVec S4x384x384x8 1 := andi main_v4 main_v6
  let main_c_1 : IVec S_ 1 := constantI S_ 1 1#1
  let main_v8 : IVec S_ 1 := (fun x v => Host.reduce IntOp.andi x v reducesTo_S4x384x384x8_S_d0_1_2_3 h_S_) main_v7 main_c_1
  main_v8
-- ==== Pre_in_table_scaled.lean ====
abbrev S100000x4 : Shape := ⟨2, ![100000, 4]⟩
abbrev S4x2x384x384x8 : Shape := ⟨5, ![4, 2, 384, 384, 8]⟩
abbrev S1 : Shape := ⟨1, ![1]⟩
abbrev S4x1x384x384x8 : Shape := ⟨5, ![4, 1, 384, 384, 8]⟩
abbrev S4x384x384x8 : Shape := ⟨4, ![4, 384, 384, 8]⟩
abbrev S_ : Shape := ⟨0, ![]⟩

class Facts : Prop where
  slices_S4x2x384x384x8_S4x1x384x384x8_0_1_0_0_0 : S4x2x384x384x8.Slices ![0, 1, 0, 0, 0] S4x1x384x384x8
  shapeCasts_S4x1x384x384x8_S4x384x384x8 : S4x1x384x384x8.ShapeCasts S4x384x384x8
  bcast_S_S4x384x384x8 : S_.BroadcastsInDim S4x384x384x8 (![] : Fin 0 → Fin S4x384x384x8.rank)
  reducesTo_S4x384x384x8_S_d0_1_2_3 : S4x384x384x8.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x4 .f32) (main_arg1 : FVec F S4x2x384x384x8 .f32) (main_arg2 : FVec F S1 .f32) : IVec S_ 1 :=
  let main_v0 : FVec F S4x1x384x384x8 .f32 := (extractStridedSlice S4x1x384x384x8 ![0, 1, 0, 0, 0] · slices_S4x2x384x384x8_S4x1x384x384x8_0_1_0_0_0) main_arg1
  let main_v1 : FVec F S4x384x384x8 .f32 := shapeCast S4x384x384x8 main_v0 shapeCasts_S4x1x384x384x8_S4x384x384x8
  let main_v2 : IVec S4x384x384x8 32 := fptosi 32 main_v1
  let main_c : IVec S_ 32 := constantI S_ 32 0#32
  let main_v3 : IVec S4x384x384x8 32 := broadcastInDim S4x384x384x8 ![] bcast_S_S4x384x384x8 main_c
  let main_v4 : IVec S4x384x384x8 1 := cmpi .sge main_v2 main_v3
  let main_c_0 : IVec S_ 32 := constantI S_ 32 100000#32
  let main_v5 : IVec S4x384x384x8 32 := broadcastInDim S4x384x384x8 ![] bcast_S_S4x384x384x8 main_c_0
  let main_v6 : IVec S4x384x384x8 1 := cmpi .slt main_v2 main_v5
  let main_v7 : IVec S4x384x384x8 1 := andi main_v4 main_v6
  let main_c_1 : IVec S_ 1 := constantI S_ 1 1#1
  let main_v8 : IVec S_ 1 := (fun x v => Host.reduce IntOp.andi x v reducesTo_S4x384x384x8_S_d0_1_2_3 h_S_) main_v7 main_c_1
  let main_cst : FVec F S_ .f32 := constant S_ .f32 0x00000000#32
  let main_v9 : FVec F S1 .f32 := broadcastInDim S1 ![] bcast_S_S1 main_cst
  let main_v10 : IVec S1 1 := cmpf .une main_arg2 main_v9
  let main_c_2 : IVec S_ 1 := constantI S_ 1 1#1
  let main_v11 : IVec S_ 1 := (fun x v => Host.reduce IntOp.andi x v reducesTo_S1_S_d0 h_S_) main_v10 main_c_2
  let main_v12 : IVec S_ 1 := andi main_v8 main_v11
  main_v12
-- ==== Kernel.lean ====
abbrev S100000x4 : Shape := ⟨2, ![100000, 4]⟩
abbrev S4x2x384x384x8 : Shape := ⟨5, ![4, 2, 384, 384, 8]⟩
abbrev S1 : Shape := ⟨1, ![1]⟩
abbrev S4x100000 : Shape := ⟨2, ![4, 100000]⟩
abbrev S400000 : Shape := ⟨1, ![400000]⟩
abbrev S4x2x384x3x128x8 : Shape := ⟨6, ![4, 2, 384, 3, 128, 8]⟩
abbrev S4x2x384x3x8x128 : Shape := ⟨6, ![4, 2, 384, 3, 8, 128]⟩
abbrev S16 : Shape := ⟨1, ![16]⟩
abbrev S4x384x3x4x128 : Shape := ⟨5, ![4, 384, 3, 4, 128]⟩
abbrev S100000 : Shape := ⟨1, ![100000]⟩
abbrev S2x3x8x128 : Shape := ⟨4, ![2, 3, 8, 128]⟩
abbrev S2x3x128 : Shape := ⟨3, ![2, 3, 128]⟩
abbrev S_ : Shape := ⟨0, ![]⟩
abbrev S1x1x2x3x8x128 : Shape := ⟨6, ![1, 1, 2, 3, 8, 128]⟩
abbrev S1x2x3x1x128 : Shape := ⟨5, ![1, 2, 3, 1, 128]⟩
abbrev S1x1x1x16 : Shape := ⟨4, ![1, 1, 1, 16]⟩
abbrev S1x1x16 : Shape := ⟨3, ![1, 1, 16]⟩
abbrev S4x384x3x128x4 : Shape := ⟨5, ![4, 384, 3, 128, 4]⟩
abbrev S4x384x384x4 : Shape := ⟨4, ![4, 384, 384, 4]⟩

abbrev nBuf : Table → Nat
  | .hbm => 11
  | .local .scVector .vmem => 8
  | _ => 0

abbrev bufTy : (tb : Table) → Fin (nBuf tb) → BufTy
  | .hbm, ⟨0, _⟩ => ⟨S100000x4, .f32⟩
  | .hbm, ⟨1, _⟩ => ⟨S4x2x384x384x8, .f32⟩
  | .hbm, ⟨2, _⟩ => ⟨S1, .f32⟩
  | .hbm, ⟨3, _⟩ => ⟨S4x100000, .f32⟩
  | .hbm, ⟨4, _⟩ => ⟨S400000, .f32⟩
  | .hbm, ⟨5, _⟩ => ⟨S4x2x384x3x128x8, .f32⟩
  | .hbm, ⟨6, _⟩ => ⟨S4x2x384x3x8x128, .f32⟩
  | .hbm, ⟨7, _⟩ => ⟨S16, .f32⟩
  | .hbm, ⟨8, _⟩ => ⟨S4x384x3x4x128, .f32⟩
  | .hbm, ⟨9, _⟩ => ⟨S4x384x3x128x4, .f32⟩
  | .hbm, ⟨10, _⟩ => ⟨S4x384x384x4, .f32⟩
  | .local .scVector .vmem, ⟨0, _⟩ => ⟨S100000, .f32⟩
  | .local .scVector .vmem, ⟨1, _⟩ => ⟨S2x3x8x128, .f32⟩
  | .local .scVector .vmem, ⟨2, _⟩ => ⟨S2x3x8x128, .f32⟩
  | .local .scVector .vmem, ⟨3, _⟩ => ⟨S2x3x8x128, .f32⟩
  | .local .scVector .vmem, ⟨4, _⟩ => ⟨S2x3x8x128, .f32⟩
  | .local .scVector .vmem, ⟨5, _⟩ => ⟨S2x3x128, .f32⟩
  | .local .scVector .vmem, ⟨6, _⟩ => ⟨S2x3x128, .f32⟩
  | .local .scVector .vmem, ⟨7, _⟩ => ⟨S16, .f32⟩
  | _, _ => ⟨S100000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v1_scv : Ref sig .scVector := ⟨.hbm, 4, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c100000_i32 : BitVec 32 := 100000#32
  let v57 : BitVec 32 := Scalar.muli v11 c100000_i32
  ![v57.toNat]
def k0_off2 (i : grid0.Coords) (c0_i32_24 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c0_i32_25 : BitVec 32 := 0#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let v63 : BitVec 32 := Scalar.addi v56 c0_i32_24
  let c0_i32_26 : BitVec 32 := 0#32
  let c0_i32_27 : BitVec 32 := 0#32
  let c0_i32_28 : BitVec 32 := 0#32
  ![v45.toNat, 0, v63.toNat, 0, 0, 0]
def k0_off3 (i : grid0.Coords) (c0_i32_32 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c1_i32_33 : BitVec 32 := 1#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let v68 : BitVec 32 := Scalar.addi v56 c0_i32_32
  let c0_i32_34 : BitVec 32 := 0#32
  let c0_i32_35 : BitVec 32 := 0#32
  let c0_i32_36 : BitVec 32 := 0#32
  ![v45.toNat, 1, v68.toNat, 0, 0, 0]
@[reducible] def k0_t1_loop : Scf.Loop 32 :=
  let c0_i32_57 : BitVec 32 := 0#32
  let c48_i32 : BitVec 32 := 48#32
  let v83 : BitVec 32 := Scalar.addi c0_i32_57 c48_i32
  let c1_i32_58 : BitVec 32 := 1#32
  ⟨c0_i32_57, v83, c1_i32_58⟩
def k0_off4 (i : grid0.Coords) (k0_t1 : Fin k0_t1_loop.trips) (c0_i32_69 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c0_i32_71 : BitVec 32 := 0#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let v95 : BitVec 32 := Scalar.addi v94 c0_i32_69
  let c2_i32_70 : BitVec 32 := 2#32
  let v96 : BitVec 32 := Scalar.muli v95 c2_i32_70
  let v97 : BitVec 32 := Scalar.addi v56 v96
  let c0_i32_72 : BitVec 32 := 0#32
  let c0_i32_73 : BitVec 32 := 0#32
  let c0_i32_74 : BitVec 32 := 0#32
  ![v45.toNat, 0, v97.toNat, 0, 0, 0]
def k0_off5 (i : grid0.Coords) (k0_t1 : Fin k0_t1_loop.trips) (c0_i32_69 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c1_i32_79 : BitVec 32 := 1#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let v95 : BitVec 32 := Scalar.addi v94 c0_i32_69
  let c2_i32_78 : BitVec 32 := 2#32
  let v102 : BitVec 32 := Scalar.muli v95 c2_i32_78
  let v103 : BitVec 32 := Scalar.addi v56 v102
  let c0_i32_80 : BitVec 32 := 0#32
  let c0_i32_81 : BitVec 32 := 0#32
  let c0_i32_82 : BitVec 32 := 0#32
  ![v45.toNat, 1, v103.toNat, 0, 0, 0]
def k0_cond1 (k0_t1 : Fin k0_t1_loop.trips) : BitVec 1 :=
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let c0_i32_69 : BitVec 32 := 0#32
  let v95 : BitVec 32 := Scalar.addi v94 c0_i32_69
  let c2_i32_86 : BitVec 32 := 2#32
  let v108 : BitVec 1 := Scalar.cmpi .sge v95 c2_i32_86
  let v109 : BitVec 32 := Scalar.extui v108
  let c0_i32_87 : BitVec 32 := 0#32
  let v110 : BitVec 1 := Scalar.cmpi .ne v109 c0_i32_87
  v110

def k0_off6 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let c0_i32_69 : BitVec 32 := 0#32
  let v95 : BitVec 32 := Scalar.addi v94 c0_i32_69
  let c2_i32_131 : BitVec 32 := 2#32
  let v150 : BitVec 32 := Scalar.subi v95 c2_i32_131
  let c2_i32_132 : BitVec 32 := 2#32
  let v151 : BitVec 32 := Scalar.muli v150 c2_i32_132
  let v152 : BitVec 32 := Scalar.addi v56 v151
  let c0_i32_133 : BitVec 32 := 0#32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_134 : BitVec 32 := 0#32
  ![v45.toNat, v152.toNat, 0, v11.toNat, 0]
@[reducible] def k0_t2_loop : Scf.Loop 32 :=
  let c0_i32_88 : BitVec 32 := 0#32
  let c48_i32_89 : BitVec 32 := 48#32
  let v111 : BitVec 32 := Scalar.addi c0_i32_88 c48_i32_89
  let c1_i32_90 : BitVec 32 := 1#32
  ⟨c0_i32_88, v111, c1_i32_90⟩
def k0_off7 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v158 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v159 : Index := Scalar.indexCast v156
  let c0_i32_135 : BitVec 32 := 0#32
  let v160 : Index := Scalar.indexCast c0_i32_135
  let c127_i32 : BitVec 32 := 127#32
  let v157 : BitVec 32 := Scalar.andi v155 c127_i32
  let v161 : Index := Scalar.indexCast v157
  ![v158.toNat, v159.toNat, 0, v161.toNat]

def k0_chk1 (v172 : IVec S16 32) : Prop :=
  (∀ a x, ((![v172] : Fin 1 → IVec S16 32) a x).toNat < S100000.size a)
theorem k0_idx1_inb : ∀ (v172 : IVec S16 32) (k0_hw1 : k0_chk1 v172), ∀ a x, ((![v172] : Fin 1 → IVec S16 32) a x).toNat < S100000.size a := fun v172 k0_hw1 => k0_hw1
def k0_off8 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v176 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v177 : Index := Scalar.indexCast v156
  let c1_i32_137 : BitVec 32 := 1#32
  let v178 : Index := Scalar.indexCast c1_i32_137
  let c127_i32 : BitVec 32 := 127#32
  let v157 : BitVec 32 := Scalar.andi v155 c127_i32
  let v179 : Index := Scalar.indexCast v157
  ![v176.toNat, v177.toNat, 1, v179.toNat]

def k0_chk2 (v190 : IVec S16 32) : Prop :=
  (∀ a x, ((![v190] : Fin 1 → IVec S16 32) a x).toNat < S100000.size a)
theorem k0_idx2_inb : ∀ (v190 : IVec S16 32) (k0_hw2 : k0_chk2 v190), ∀ a x, ((![v190] : Fin 1 → IVec S16 32) a x).toNat < S100000.size a := fun v190 k0_hw2 => k0_hw2
def k0_off9 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v194 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v195 : Index := Scalar.indexCast v156
  let c2_i32_139 : BitVec 32 := 2#32
  let v196 : Index := Scalar.indexCast c2_i32_139
  let c127_i32 : BitVec 32 := 127#32
  let v157 : BitVec 32 := Scalar.andi v155 c127_i32
  let v197 : Index := Scalar.indexCast v157
  ![v194.toNat, v195.toNat, 2, v197.toNat]

def k0_chk3 (v208 : IVec S16 32) : Prop :=
  (∀ a x, ((![v208] : Fin 1 → IVec S16 32) a x).toNat < S100000.size a)
theorem k0_idx3_inb : ∀ (v208 : IVec S16 32) (k0_hw3 : k0_chk3 v208), ∀ a x, ((![v208] : Fin 1 → IVec S16 32) a x).toNat < S100000.size a := fun v208 k0_hw3 => k0_hw3
def k0_off10 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v212 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v213 : Index := Scalar.indexCast v156
  let c3_i32 : BitVec 32 := 3#32
  let v214 : Index := Scalar.indexCast c3_i32
  let c127_i32 : BitVec 32 := 127#32
  let v157 : BitVec 32 := Scalar.andi v155 c127_i32
  let v215 : Index := Scalar.indexCast v157
  ![v212.toNat, v213.toNat, 3, v215.toNat]

def k0_chk4 (v226 : IVec S16 32) : Prop :=
  (∀ a x, ((![v226] : Fin 1 → IVec S16 32) a x).toNat < S100000.size a)
theorem k0_idx4_inb : ∀ (v226 : IVec S16 32) (k0_hw4 : k0_chk4 v226), ∀ a x, ((![v226] : Fin 1 → IVec S16 32) a x).toNat < S100000.size a := fun v226 k0_hw4 => k0_hw4
def k0_off11 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v230 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v231 : Index := Scalar.indexCast v156
  let c4_i32_142 : BitVec 32 := 4#32
  let v232 : Index := Scalar.indexCast c4_i32_142
  let c127_i32 : BitVec 32 := 127#32
  let v157 : BitVec 32 := Scalar.andi v155 c127_i32
  let v233 : Index := Scalar.indexCast v157
  ![v230.toNat, v231.toNat, 4, v233.toNat]

def k0_chk5 (v244 : IVec S16 32) : Prop :=
  (∀ a x, ((![v244] : Fin 1 → IVec S16 32) a x).toNat < S100000.size a)
theorem k0_idx5_inb : ∀ (v244 : IVec S16 32) (k0_hw5 : k0_chk5 v244), ∀ a x, ((![v244] : Fin 1 → IVec S16 32) a x).toNat < S100000.size a := fun v244 k0_hw5 => k0_hw5
def k0_off12 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v248 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v249 : Index := Scalar.indexCast v156
  let c5_i32 : BitVec 32 := 5#32
  let v250 : Index := Scalar.indexCast c5_i32
  let c127_i32 : BitVec 32 := 127#32
  let v157 : BitVec 32 := Scalar.andi v155 c127_i32
  let v251 : Index := Scalar.indexCast v157
  ![v248.toNat, v249.toNat, 5, v251.toNat]

def k0_chk6 (v262 : IVec S16 32) : Prop :=
  (∀ a x, ((![v262] : Fin 1 → IVec S16 32) a x).toNat < S100000.size a)
theorem k0_idx6_inb : ∀ (v262 : IVec S16 32) (k0_hw6 : k0_chk6 v262), ∀ a x, ((![v262] : Fin 1 → IVec S16 32) a x).toNat < S100000.size a := fun v262 k0_hw6 => k0_hw6
def k0_off13 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v266 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v267 : Index := Scalar.indexCast v156
  let c6_i32 : BitVec 32 := 6#32
  let v268 : Index := Scalar.indexCast c6_i32
  let c127_i32 : BitVec 32 := 127#32
  let v157 : BitVec 32 := Scalar.andi v155 c127_i32
  let v269 : Index := Scalar.indexCast v157
  ![v266.toNat, v267.toNat, 6, v269.toNat]

def k0_chk7 (v280 : IVec S16 32) : Prop :=
  (∀ a x, ((![v280] : Fin 1 → IVec S16 32) a x).toNat < S100000.size a)
theorem k0_idx7_inb : ∀ (v280 : IVec S16 32) (k0_hw7 : k0_chk7 v280), ∀ a x, ((![v280] : Fin 1 → IVec S16 32) a x).toNat < S100000.size a := fun v280 k0_hw7 => k0_hw7
def k0_off14 (k0_t2 : Fin k0_t2_loop.trips) : Fin 4 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v284 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v285 : Index := Scalar.indexCast v156
  let c7_i32_146 : BitVec 32 := 7#32
  let v286 : Index := Scalar.indexCast c7_i32_146
  let c127_i32 : BitVec 32 := 127#32
  let v157 : BitVec 32 := Scalar.andi v155 c127_i32
  let v287 : Index := Scalar.indexCast v157
  ![v284.toNat, v285.toNat, 7, v287.toNat]

def k0_chk8 (v298 : IVec S16 32) : Prop :=
  (∀ a x, ((![v298] : Fin 1 → IVec S16 32) a x).toNat < S100000.size a)
theorem k0_idx8_inb : ∀ (v298 : IVec S16 32) (k0_hw8 : k0_chk8 v298), ∀ a x, ((![v298] : Fin 1 → IVec S16 32) a x).toNat < S100000.size a := fun v298 k0_hw8 => k0_hw8
def k0_off15 (k0_t2 : Fin k0_t2_loop.trips) : Fin 3 → Nat :=
  let c0_i32_131 : BitVec 32 := 0#32
  let c0_i32_88 : BitVec 32 := 0#32
  let c1_i32_90 : BitVec 32 := 1#32
  let arg21 : BitVec 32 := Scf.iv c0_i32_88 c1_i32_90 k0_t2
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v309 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v310 : Index := Scalar.indexCast v156
  let c127_i32 : BitVec 32 := 127#32
  let v157 : BitVec 32 := Scalar.andi v155 c127_i32
  let v311 : Index := Scalar.indexCast v157
  ![v309.toNat, v310.toNat, v311.toNat]
def k0_off16 (i : grid0.Coords) (k0_t1 : Fin k0_t1_loop.trips) (c0_i32_69 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let v95 : BitVec 32 := Scalar.addi v94 c0_i32_69
  let c2_i32_92 : BitVec 32 := 2#32
  let v112 : BitVec 32 := Scalar.muli v95 c2_i32_92
  let v113 : BitVec 32 := Scalar.addi v56 v112
  let c0_i32_93 : BitVec 32 := 0#32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_94 : BitVec 32 := 0#32
  ![v45.toNat, v113.toNat, 0, v11.toNat, 0]
def k0_cond2 (k0_t1 : Fin k0_t1_loop.trips) : BitVec 1 :=
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let c0_i32_69 : BitVec 32 := 0#32
  let v95 : BitVec 32 := Scalar.addi v94 c0_i32_69
  let c2_i32_97 : BitVec 32 := 2#32
  let v118 : BitVec 32 := Scalar.addi v95 c2_i32_97
  let c96_i32 : BitVec 32 := 96#32
  let v119 : BitVec 1 := Scalar.cmpi .slt v118 c96_i32
  let v120 : BitVec 32 := Scalar.extui v119
  let c0_i32_98 : BitVec 32 := 0#32
  let v121 : BitVec 1 := Scalar.cmpi .ne v120 c0_i32_98
  v121

def k0_off17 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c0_i32_133 : BitVec 32 := 0#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let c0_i32_69 : BitVec 32 := 0#32
  let v95 : BitVec 32 := Scalar.addi v94 c0_i32_69
  let c2_i32_131 : BitVec 32 := 2#32
  let v150 : BitVec 32 := Scalar.addi v95 c2_i32_131
  let c2_i32_132 : BitVec 32 := 2#32
  let v151 : BitVec 32 := Scalar.muli v150 c2_i32_132
  let v152 : BitVec 32 := Scalar.addi v56 v151
  let c0_i32_134 : BitVec 32 := 0#32
  let c0_i32_135 : BitVec 32 := 0#32
  let c0_i32_136 : BitVec 32 := 0#32
  ![v45.toNat, 0, v152.toNat, 0, 0, 0]
def k0_off18 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c1_i32_142 : BitVec 32 := 1#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_68 : BitVec 32 := 2#32
  let v94 : BitVec 32 := Scalar.muli arg20 c2_i32_68
  let c0_i32_69 : BitVec 32 := 0#32
  let v95 : BitVec 32 := Scalar.addi v94 c0_i32_69
  let c2_i32_140 : BitVec 32 := 2#32
  let v157 : BitVec 32 := Scalar.addi v95 c2_i32_140
  let c2_i32_141 : BitVec 32 := 2#32
  let v158 : BitVec 32 := Scalar.muli v157 c2_i32_141
  let v159 : BitVec 32 := Scalar.addi v56 v158
  let c0_i32_143 : BitVec 32 := 0#32
  let c0_i32_144 : BitVec 32 := 0#32
  let c0_i32_145 : BitVec 32 := 0#32
  ![v45.toNat, 1, v159.toNat, 0, 0, 0]
def k0_cond3 (k0_t1 : Fin k0_t1_loop.trips) : BitVec 1 :=
  let c0_i32_57 : BitVec 32 := 0#32
  let c1_i32_58 : BitVec 32 := 1#32
  let arg20 : BitVec 32 := Scf.iv c0_i32_57 c1_i32_58 k0_t1
  let c2_i32_99 : BitVec 32 := 2#32
  let v122 : BitVec 32 := Scalar.muli arg20 c2_i32_99
  let c1_i32_100 : BitVec 32 := 1#32
  let v123 : BitVec 32 := Scalar.addi v122 c1_i32_100
  let c2_i32_117 : BitVec 32 := 2#32
  let v136 : BitVec 1 := Scalar.cmpi .sge v123 c2_i32_117
  let v137 : BitVec 32 := Scalar.extui v136
  let c0_i32_118 : BitVec 32 := 0#32
  let v138 : BitVec 1 := Scalar.cmpi .ne v137 c0_i32_118
  v138

def k0_off19 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_99 : BitVec 32 := 2#32
  let v122 : BitVec 32 := Scalar.muli arg20 c2_i32_99
  let c1_i32_100 : BitVec 32 := 1#32
  let v123 : BitVec 32 := Scalar.addi v122 c1_i32_100
  let c2_i32_131 : BitVec 32 := 2#32
  let v150 : BitVec 32 := Scalar.subi v123 c2_i32_131
  let c2_i32_132 : BitVec 32 := 2#32
  let v151 : BitVec 32 := Scalar.muli v150 c2_i32_132
  let v152 : BitVec 32 := Scalar.addi v56 v151
  let c0_i32_133 : BitVec 32 := 0#32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_134 : BitVec 32 := 0#32
  ![v45.toNat, v152.toNat, 0, v11.toNat, 0]
@[reducible] def k0_t3_loop : Scf.Loop 32 :=
  let c0_i32_119 : BitVec 32 := 0#32
  let c48_i32_120 : BitVec 32 := 48#32
  let v139 : BitVec 32 := Scalar.addi c0_i32_119 c48_i32_120
  let c1_i32_121 : BitVec 32 := 1#32
  ⟨c0_i32_119, v139, c1_i32_121⟩
def k0_off20 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v158 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v159 : Index := Scalar.indexCast v156
  let c0_i32_135 : BitVec 32 := 0#32
  let v160 : Index := Scalar.indexCast c0_i32_135
  let c127_i32 : BitVec 32 := 127#32
  let v157 : BitVec 32 := Scalar.andi v155 c127_i32
  let v161 : Index := Scalar.indexCast v157
  ![v158.toNat, v159.toNat, 0, v161.toNat]

def k0_chk9 (v172 : IVec S16 32) : Prop :=
  (∀ a x, ((![v172] : Fin 1 → IVec S16 32) a x).toNat < S100000.size a)
theorem k0_idx9_inb : ∀ (v172 : IVec S16 32) (k0_hw9 : k0_chk9 v172), ∀ a x, ((![v172] : Fin 1 → IVec S16 32) a x).toNat < S100000.size a := fun v172 k0_hw9 => k0_hw9
def k0_off21 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v176 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v177 : Index := Scalar.indexCast v156
  let c1_i32_137 : BitVec 32 := 1#32
  let v178 : Index := Scalar.indexCast c1_i32_137
  let c127_i32 : BitVec 32 := 127#32
  let v157 : BitVec 32 := Scalar.andi v155 c127_i32
  let v179 : Index := Scalar.indexCast v157
  ![v176.toNat, v177.toNat, 1, v179.toNat]

def k0_chk10 (v190 : IVec S16 32) : Prop :=
  (∀ a x, ((![v190] : Fin 1 → IVec S16 32) a x).toNat < S100000.size a)
theorem k0_idx10_inb : ∀ (v190 : IVec S16 32) (k0_hw10 : k0_chk10 v190), ∀ a x, ((![v190] : Fin 1 → IVec S16 32) a x).toNat < S100000.size a := fun v190 k0_hw10 => k0_hw10
def k0_off22 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v194 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v195 : Index := Scalar.indexCast v156
  let c2_i32_139 : BitVec 32 := 2#32
  let v196 : Index := Scalar.indexCast c2_i32_139
  let c127_i32 : BitVec 32 := 127#32
  let v157 : BitVec 32 := Scalar.andi v155 c127_i32
  let v197 : Index := Scalar.indexCast v157
  ![v194.toNat, v195.toNat, 2, v197.toNat]

def k0_chk11 (v208 : IVec S16 32) : Prop :=
  (∀ a x, ((![v208] : Fin 1 → IVec S16 32) a x).toNat < S100000.size a)
theorem k0_idx11_inb : ∀ (v208 : IVec S16 32) (k0_hw11 : k0_chk11 v208), ∀ a x, ((![v208] : Fin 1 → IVec S16 32) a x).toNat < S100000.size a := fun v208 k0_hw11 => k0_hw11
def k0_off23 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v212 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v213 : Index := Scalar.indexCast v156
  let c3_i32 : BitVec 32 := 3#32
  let v214 : Index := Scalar.indexCast c3_i32
  let c127_i32 : BitVec 32 := 127#32
  let v157 : BitVec 32 := Scalar.andi v155 c127_i32
  let v215 : Index := Scalar.indexCast v157
  ![v212.toNat, v213.toNat, 3, v215.toNat]

def k0_chk12 (v226 : IVec S16 32) : Prop :=
  (∀ a x, ((![v226] : Fin 1 → IVec S16 32) a x).toNat < S100000.size a)
theorem k0_idx12_inb : ∀ (v226 : IVec S16 32) (k0_hw12 : k0_chk12 v226), ∀ a x, ((![v226] : Fin 1 → IVec S16 32) a x).toNat < S100000.size a := fun v226 k0_hw12 => k0_hw12
def k0_off24 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v230 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v231 : Index := Scalar.indexCast v156
  let c4_i32_142 : BitVec 32 := 4#32
  let v232 : Index := Scalar.indexCast c4_i32_142
  let c127_i32 : BitVec 32 := 127#32
  let v157 : BitVec 32 := Scalar.andi v155 c127_i32
  let v233 : Index := Scalar.indexCast v157
  ![v230.toNat, v231.toNat, 4, v233.toNat]

def k0_chk13 (v244 : IVec S16 32) : Prop :=
  (∀ a x, ((![v244] : Fin 1 → IVec S16 32) a x).toNat < S100000.size a)
theorem k0_idx13_inb : ∀ (v244 : IVec S16 32) (k0_hw13 : k0_chk13 v244), ∀ a x, ((![v244] : Fin 1 → IVec S16 32) a x).toNat < S100000.size a := fun v244 k0_hw13 => k0_hw13
def k0_off25 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v248 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v249 : Index := Scalar.indexCast v156
  let c5_i32 : BitVec 32 := 5#32
  let v250 : Index := Scalar.indexCast c5_i32
  let c127_i32 : BitVec 32 := 127#32
  let v157 : BitVec 32 := Scalar.andi v155 c127_i32
  let v251 : Index := Scalar.indexCast v157
  ![v248.toNat, v249.toNat, 5, v251.toNat]

def k0_chk14 (v262 : IVec S16 32) : Prop :=
  (∀ a x, ((![v262] : Fin 1 → IVec S16 32) a x).toNat < S100000.size a)
theorem k0_idx14_inb : ∀ (v262 : IVec S16 32) (k0_hw14 : k0_chk14 v262), ∀ a x, ((![v262] : Fin 1 → IVec S16 32) a x).toNat < S100000.size a := fun v262 k0_hw14 => k0_hw14
def k0_off26 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v266 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v267 : Index := Scalar.indexCast v156
  let c6_i32 : BitVec 32 := 6#32
  let v268 : Index := Scalar.indexCast c6_i32
  let c127_i32 : BitVec 32 := 127#32
  let v157 : BitVec 32 := Scalar.andi v155 c127_i32
  let v269 : Index := Scalar.indexCast v157
  ![v266.toNat, v267.toNat, 6, v269.toNat]

def k0_chk15 (v280 : IVec S16 32) : Prop :=
  (∀ a x, ((![v280] : Fin 1 → IVec S16 32) a x).toNat < S100000.size a)
theorem k0_idx15_inb : ∀ (v280 : IVec S16 32) (k0_hw15 : k0_chk15 v280), ∀ a x, ((![v280] : Fin 1 → IVec S16 32) a x).toNat < S100000.size a := fun v280 k0_hw15 => k0_hw15
def k0_off27 (k0_t3 : Fin k0_t3_loop.trips) : Fin 4 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v284 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v285 : Index := Scalar.indexCast v156
  let c7_i32_146 : BitVec 32 := 7#32
  let v286 : Index := Scalar.indexCast c7_i32_146
  let c127_i32 : BitVec 32 := 127#32
  let v157 : BitVec 32 := Scalar.andi v155 c127_i32
  let v287 : Index := Scalar.indexCast v157
  ![v284.toNat, v285.toNat, 7, v287.toNat]

def k0_chk16 (v298 : IVec S16 32) : Prop :=
  (∀ a x, ((![v298] : Fin 1 → IVec S16 32) a x).toNat < S100000.size a)
theorem k0_idx16_inb : ∀ (v298 : IVec S16 32) (k0_hw16 : k0_chk16 v298), ∀ a x, ((![v298] : Fin 1 → IVec S16 32) a x).toNat < S100000.size a := fun v298 k0_hw16 => k0_hw16
def k0_off28 (k0_t3 : Fin k0_t3_loop.trips) : Fin 3 → Nat :=
  let c0_i32_131 : BitVec 32 := 0#32
  let c0_i32_119 : BitVec 32 := 0#32
  let c1_i32_121 : BitVec 32 := 1#32
  let arg21 : BitVec 32 := Scf.iv c0_i32_119 c1_i32_121 k0_t3
  let c16_i32 : BitVec 32 := 16#32
  let v150 : BitVec 32 := Scalar.muli arg21 c16_i32
  let v151 : BitVec 32 := Scalar.addi c0_i32_131 v150
  let c384_i32 : BitVec 32 := 384#32
  let v152 : BitVec 1 := Scalar.cmpi .sge v151 c384_i32
  let c1_i32_132 : BitVec 32 := 1#32
  let c0_i32_133 : BitVec 32 := 0#32
  let v153 : BitVec 32 := Scalar.select v152 c1_i32_132 c0_i32_133
  let v309 : Index := Scalar.indexCast v153
  let c384_i32_134 : BitVec 32 := 384#32
  let v154 : BitVec 32 := Scalar.muli v153 c384_i32_134
  let v155 : BitVec 32 := Scalar.subi v151 v154
  let c7_i32 : BitVec 32 := 7#32
  let v156 : BitVec 32 := Scalar.shrui v155 c7_i32
  let v310 : Index := Scalar.indexCast v156
  let c127_i32 : BitVec 32 := 127#32
  let v157 : BitVec 32 := Scalar.andi v155 c127_i32
  let v311 : Index := Scalar.indexCast v157
  ![v309.toNat, v310.toNat, v311.toNat]
def k0_cond4 (k0_t1 : Fin k0_t1_loop.trips) : BitVec 1 :=
  let c0_i32_57 : BitVec 32 := 0#32
  let c1_i32_58 : BitVec 32 := 1#32
  let arg20 : BitVec 32 := Scf.iv c0_i32_57 c1_i32_58 k0_t1
  let c2_i32_99 : BitVec 32 := 2#32
  let v122 : BitVec 32 := Scalar.muli arg20 c2_i32_99
  let c1_i32_100 : BitVec 32 := 1#32
  let v123 : BitVec 32 := Scalar.addi v122 c1_i32_100
  let c2_i32_128 : BitVec 32 := 2#32
  let v146 : BitVec 32 := Scalar.addi v123 c2_i32_128
  let c96_i32_129 : BitVec 32 := 96#32
  let v147 : BitVec 1 := Scalar.cmpi .slt v146 c96_i32_129
  let v148 : BitVec 32 := Scalar.extui v147
  let c0_i32_130 : BitVec 32 := 0#32
  let v149 : BitVec 1 := Scalar.cmpi .ne v148 c0_i32_130
  v149

def k0_off29 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c0_i32_133 : BitVec 32 := 0#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_99 : BitVec 32 := 2#32
  let v122 : BitVec 32 := Scalar.muli arg20 c2_i32_99
  let c1_i32_100 : BitVec 32 := 1#32
  let v123 : BitVec 32 := Scalar.addi v122 c1_i32_100
  let c2_i32_131 : BitVec 32 := 2#32
  let v150 : BitVec 32 := Scalar.addi v123 c2_i32_131
  let c2_i32_132 : BitVec 32 := 2#32
  let v151 : BitVec 32 := Scalar.muli v150 c2_i32_132
  let v152 : BitVec 32 := Scalar.addi v56 v151
  let c0_i32_134 : BitVec 32 := 0#32
  let c0_i32_135 : BitVec 32 := 0#32
  let c0_i32_136 : BitVec 32 := 0#32
  ![v45.toNat, 0, v152.toNat, 0, 0, 0]
def k0_off30 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c1_i32_142 : BitVec 32 := 1#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let c0_i32_57 : BitVec 32 := 0#32
  let c1_i32_58 : BitVec 32 := 1#32
  let arg20 : BitVec 32 := Scf.iv c0_i32_57 c1_i32_58 k0_t1
  let c2_i32_99 : BitVec 32 := 2#32
  let v122 : BitVec 32 := Scalar.muli arg20 c2_i32_99
  let c1_i32_100 : BitVec 32 := 1#32
  let v123 : BitVec 32 := Scalar.addi v122 c1_i32_100
  let c2_i32_140 : BitVec 32 := 2#32
  let v157 : BitVec 32 := Scalar.addi v123 c2_i32_140
  let c2_i32_141 : BitVec 32 := 2#32
  let v158 : BitVec 32 := Scalar.muli v157 c2_i32_141
  let v159 : BitVec 32 := Scalar.addi v56 v158
  let c0_i32_143 : BitVec 32 := 0#32
  let c0_i32_144 : BitVec 32 := 0#32
  let c0_i32_145 : BitVec 32 := 0#32
  ![v45.toNat, 1, v159.toNat, 0, 0, 0]
def k0_off31 (i : grid0.Coords) (c188_i32 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c192_i32 : BitVec 32 := 192#32
  let v56 : BitVec 32 := Scalar.muli v55 c192_i32
  let v84 : BitVec 32 := Scalar.addi v56 c188_i32
  let c0_i32_60 : BitVec 32 := 0#32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_61 : BitVec 32 := 0#32
  ![v45.toNat, v84.toNat, 0, v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x4 : Shape := ⟨2, ![100000, 4]⟩
abbrev S4x2x384x384x8 : Shape := ⟨5, ![4, 2, 384, 384, 8]⟩
abbrev S1 : Shape := ⟨1, ![1]⟩
abbrev S4x1x384x384x8 : Shape := ⟨5, ![4, 1, 384, 384, 8]⟩
abbrev S4x384x384x8 : Shape := ⟨4, ![4, 384, 384, 8]⟩
abbrev S4718592 : Shape := ⟨1, ![4718592]⟩
abbrev S_ : Shape := ⟨0, ![]⟩
abbrev S4718592x1 : Shape := ⟨2, ![4718592, 1]⟩
abbrev S1x1 : Shape := ⟨2, ![1, 1]⟩
abbrev S4718592x4 : Shape := ⟨2, ![4718592, 4]⟩
abbrev S4x384x384x8x4 : Shape := ⟨5, ![4, 384, 384, 8, 4]⟩
abbrev S1x1x1x1 : Shape := ⟨4, ![1, 1, 1, 1]⟩
abbrev S4x384x384x8x1 : Shape := ⟨5, ![4, 384, 384, 8, 1]⟩
abbrev S4x384x384x1 : Shape := ⟨4, ![4, 384, 384, 1]⟩
abbrev S4x384x384x1x1 : Shape := ⟨5, ![4, 384, 384, 1, 1]⟩
abbrev S4x384x384x4 : Shape := ⟨4, ![4, 384, 384, 4]⟩

abbrev nBuf : Space → Nat
  | .hbm => 62
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S4x2x384x384x8, .f32⟩
  | .hbm, ⟨2, _⟩ => ⟨S1, .f32⟩
  | .hbm, ⟨3, _⟩ => ⟨S4x1x384x384x8, .f32⟩
  | .hbm, ⟨4, _⟩ => ⟨S4x384x384x8, .f32⟩
  | .hbm, ⟨5, _⟩ => ⟨S4x1x384x384x8, .f32⟩
  | .hbm, ⟨6, _⟩ => ⟨S4x384x384x8, .f32⟩
  | .hbm, ⟨7, _⟩ => ⟨S4x384x384x8, .i32⟩
  | .hbm, ⟨8, _⟩ => ⟨S4718592, .i32⟩
  | .hbm, ⟨9, _⟩ => ⟨S_, .i32⟩
  | .hbm, ⟨10, _⟩ => ⟨S4718592, .i32⟩
  | .hbm, ⟨11, _⟩ => ⟨S4718592, .i1⟩
  | .hbm, ⟨12, _⟩ => ⟨S_, .i32⟩
  | .hbm, ⟨13, _⟩ => ⟨S4718592, .i32⟩
  | .hbm, ⟨14, _⟩ => ⟨S4718592, .i32⟩
  | .hbm, ⟨15, _⟩ => ⟨S4718592, .i32⟩
  | .hbm, ⟨16, _⟩ => ⟨S4718592x1, .i32⟩
  | .hbm, ⟨17, _⟩ => ⟨S1, .i32⟩
  | .hbm, ⟨18, _⟩ => ⟨S_, .i32⟩
  | .hbm, ⟨19, _⟩ => ⟨S4718592x1, .i32⟩
  | .hbm, ⟨20, _⟩ => ⟨S4718592x1, .i1⟩
  | .hbm, ⟨21, _⟩ => ⟨S1x1, .i32⟩
  | .hbm, ⟨22, _⟩ => ⟨S4718592x1, .i32⟩
  | .hbm, ⟨23, _⟩ => ⟨S4718592x1, .i1⟩
  | .hbm, ⟨24, _⟩ => ⟨S4718592x1, .i1⟩
  | .hbm, ⟨25, _⟩ => ⟨S_, .i1⟩
  | .hbm, ⟨26, _⟩ => ⟨S4718592, .i1⟩
  | .hbm, ⟨27, _⟩ => ⟨S4718592x4, .f32⟩
  | .hbm, ⟨28, _⟩ => ⟨S4718592x4, .i1⟩
  | .hbm, ⟨29, _⟩ => ⟨S_, .f32⟩
  | .hbm, ⟨30, _⟩ => ⟨S4718592x4, .f32⟩
  | .hbm, ⟨31, _⟩ => ⟨S4718592x4, .f32⟩
  | .hbm, ⟨32, _⟩ => ⟨S4x384x384x8x4, .f32⟩
  | .hbm, ⟨33, _⟩ => ⟨S1x1x1x1, .f32⟩
  | .hbm, ⟨34, _⟩ => ⟨S4x384x384x8, .f32⟩
  | .hbm, ⟨35, _⟩ => ⟨S4x384x384x8, .f32⟩
  | .hbm, ⟨36, _⟩ => ⟨S4x384x384x8, .f32⟩
  | .hbm, ⟨37, _⟩ => ⟨S_, .f32⟩
  | .hbm, ⟨38, _⟩ => ⟨S4x384x384x8, .f32⟩
  | .hbm, ⟨39, _⟩ => ⟨S4x384x384x8, .f32⟩
  | .hbm, ⟨40, _⟩ => ⟨S4x384x384x8, .f32⟩
  | .hbm, ⟨41, _⟩ => ⟨S4x384x384x8, .f32⟩
  | .hbm, ⟨42, _⟩ => ⟨S4x384x384x8x1, .f32⟩
  | .hbm, ⟨43, _⟩ => ⟨S_, .f32⟩
  | .hbm, ⟨44, _⟩ => ⟨S4x384x384x1, .f32⟩
  | .hbm, ⟨45, _⟩ => ⟨S4x384x384x1x1, .f32⟩
  | .hbm, ⟨46, _⟩ => ⟨S_, .f32⟩
  | .hbm, ⟨47, _⟩ => ⟨S4x384x384x1x1, .f32⟩
  | .hbm, ⟨48, _⟩ => ⟨S4x384x384x1x1, .f32⟩
  | .hbm, ⟨49, _⟩ => ⟨S_, .f32⟩
  | .hbm, ⟨50, _⟩ => ⟨S4x384x384x1x1, .f32⟩
  | .hbm, ⟨51, _⟩ => ⟨S4x384x384x1x1, .i1⟩
  | .hbm, ⟨52, _⟩ => ⟨S4x384x384x8x4, .f32⟩
  | .hbm, ⟨53, _⟩ => ⟨S4x384x384x8x4, .f32⟩
  | .hbm, ⟨54, _⟩ => ⟨S4x384x384x8x4, .f32⟩
  | .hbm, ⟨55, _⟩ => ⟨S4x384x384x8x4, .f32⟩
  | .hbm, ⟨56, _⟩ => ⟨S_, .f32⟩
  | .hbm, ⟨57, _⟩ => ⟨S4x384x384x8x4, .f32⟩
  | .hbm, ⟨58, _⟩ => ⟨S4x384x384x8x4, .i1⟩
  | .hbm, ⟨59, _⟩ => ⟨S4x384x384x8x4, .f32⟩
  | .hbm, ⟨60, _⟩ => ⟨S_, .f32⟩
  | .hbm, ⟨61, _⟩ => ⟨S4x384x384x4, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_0 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_call1_v0 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩

abbrev nD : Nat := 1
abbrev τ : Topo := Topo.v7x

variable {F : FTy → Type} [FloatOps F]
-- ==== Proof.Setup.lean ====
/-
  The kernel's program as the launch theorem sees it, the resource algebra the run is stated over, and the
  arrays, scratches and semaphores of a vector subcore by short names.
-/
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.StableHlo.Run
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts: its semaphores are unlike and not scoped, and no shared scratch is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

abbrev MM (F : FTy → Type) := MT nD τ sig (HIx 1) (Elt F) ℕ UU ℕ

def EH : Emb UH (MM F) := embL

instance EH_landsIn : (EH : Emb UH (MM F)).LandsIn (upEmb : UEmb _ (MM F)) := by unfold EH; infer_instance

/-! ## A subcore's memory -/

/-- The subcore of the grid point `i`, on device `d`. -/
abbrev thr (d : Dev nD) (i : grid0.Coords) : Thread nD τ := V d ((i 0).castLE hcore0) ((i 1).castLE hsub0)

abbrev mTab : Memref sig .scVector .hbm S400000 .f32 := Memref.whole main_v1_scv
abbrev mPairs : Memref sig .scVector .hbm S4x2x384x3x8x128 .f32 := Memref.whole main_v3_scv
abbrev mC : Memref sig .scVector .hbm S16 .f32 := Memref.whole main_v4_scv
abbrev mOut : Memref sig .scVector .hbm S4x384x3x4x128 .f32 := Memref.whole main_v5_scv
abbrev mCol : Memref sig .scVector .vmem S100000 .f32 := Memref.whole cc0_scratch0
abbrev mD0 : Memref sig .scVector .vmem S2x3x8x128 .f32 := Memref.whole cc0_scratch1
abbrev mD1 : Memref sig .scVector .vmem S2x3x8x128 .f32 := Memref.whole cc0_scratch2
abbrev mI0 : Memref sig .scVector .vmem S2x3x8x128 .f32 := Memref.whole cc0_scratch3
abbrev mI1 : Memref sig .scVector .vmem S2x3x8x128 .f32 := Memref.whole cc0_scratch4
abbrev mO0 : Memref sig .scVector .vmem S2x3x128 .f32 := Memref.whole cc0_scratch5
abbrev mO1 : Memref sig .scVector .vmem S2x3x128 .f32 := Memref.whole cc0_scratch6
abbrev mCv : Memref sig .scVector .vmem S16 .f32 := Memref.whole cc0_scratch7

end Cert.Proof.K
-- ==== Proof.Inner.lean ====
/-
  One group of sixteen pixels: the inner loops' region, run over the block of distances and the block of indices a
  slot holds, the column of the table the subcore keeps, and the slot's block of results.
-/
module

public import proofs.«01_k».proof.Proof.Setup

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rectangle of a block a group reads for one neighbour, from its offsets. -/
abbrev rIn (off : Fin 4 → ℕ) (inb : ∀ a, off a + S1x1x1x16.size a ≤ S2x3x8x128.size a) : Rect S2x3x8x128 :=
  Rect.unit (s := S2x3x8x128) off S1x1x1x16.size inb

/-- The indices of a loaded group of sixteen floats. -/
def ix (ld : Vec F S1x1x1x16 .f32) : IVec S16 32 := fptosi 32 (shapeCast S16 ld shapeCasts_S1x1x1x16_S16 : FVec F S16 .f32)

section One
variable {d : Dev nD} {i : grid0.Coords} {a6 : Memref sig .scVector .vmem S100000 .f32} {a7 a9 : Memref sig .scVector .vmem S2x3x8x128 .f32}

/-- What one neighbour of the group reads: its distances, its indices, and the column at those indices. -/
theorem wp_neighbour (off : Fin 4 → ℕ) {inb inb' : ∀ a, off a + S1x1x1x16.size a ≤ S2x3x8x128.size a}
    {P : IVec S16 32 → Prop} {dec : ∀ v, Decidable (P v)} {hb : ∀ v, P v → ∀ a x, ((![v] : Fin 1 → IVec S16 32) a x).toNat < S100000.size a}
    {hl : a7.view.LoadsAt (rIn off inb).toLoadRect} {hl' : a9.view.LoadsAt (rIn off inb').toLoadRect} {hg : a6.view.Loads} {α : Type}
    {k : Vec F S1x1x1x16 .f32 → Vec F S1x1x1x16 .f32 → Vec F S16 .f32 → Prog (TpuEff nD τ sig (Elt F) Λ₀ (thr d i).2) α} {Q : α → sProp (MM F)}
    {fc : Buf (Elt F) (a6.view.loc (thr d i))} {fd : Buf (Elt F) (a7.view.loc (thr d i))} {fi : Buf (Elt F) (a9.view.loc (thr d i))}
    (hP : P (ix (a9.view.readAt (Elt F) (rIn off inb').toLoadRect fi))) :
    iprop((a6.view.loc (thr d i) ↦{fullShare} fc) ∗ (a7.view.loc (thr d i) ↦{fullShare} fd) ∗ (a9.view.loc (thr d i) ↦{fullShare} fi))
      ⊢ iprop(((a6.view.loc (thr d i) ↦{fullShare} fc) ∗ (a7.view.loc (thr d i) ↦{fullShare} fd) ∗ (a9.view.loc (thr d i) ↦{fullShare} fi)
          -∗ wp frame (wpE (defs₀ (F := F)) 𝒱₀ (thr d i) none) Set.univ
            (k (a7.view.readAt (Elt F) (rIn off inb).toLoadRect fd) (a9.view.readAt (Elt F) (rIn off inb').toLoadRect fi)
              (loadIdx ((a6.access (.whole S100000)).read (Elt F) fc) ![ix (a9.view.readAt (Elt F) (rIn off inb').toLoadRect fi)] (hb _ hP))) Q)
        -∗ wp frame (wpE (defs₀ (F := F)) 𝒱₀ (thr d i) none) Set.univ
          (.op (.load a7 (rIn off inb).toLoadRect hl) fun ld => .op (.load a9 (rIn off inb').toLoadRect hl') fun li =>
            .op (.assume (P (ix li)) (dec (ix li))) fun h => SparseCore.vectorLoadIdx a6 ![ix li] (hb (ix li) h.down) hg >>= fun g => k ld li g) Q) := by
  iintro ⟨Hc, Hd, Hi⟩ HK
  iapply (wp_load 𝒱₀ (thr d i) none Set.univ (m := a7) (S := Finset.univ) (Finset.subset_univ _)) $$ Hd
  iintro Hd
  iapply (wp_load 𝒱₀ (thr d i) none Set.univ (m := a9) (S := Finset.univ) (Finset.subset_univ _)) $$ Hi
  iintro Hi
  rw [wp_assume_of _ _ _ _ hP]
  iapply (SparseCore.wp_vectorLoadIdx 𝒱₀ (thr d i) none Set.univ (base := a6) (S := Finset.univ) (q := fullShare) (Finset.subset_univ _)) $$ Hc
  iintro Hc
  iapply HK
  isplitl [Hc]; · iexact Hc
  isplitl [Hd]; · iexact Hd
  iexact Hi

end One

/-- The group's sixteen results, from its eight neighbours' distances and table values. -/
def grp (v61 : FVec F S16 .f32) (ld : Fin 8 → Vec F S1x1x1x16 .f32) (g : Fin 8 → Vec F S16 .f32) : FVec F S16 .f32 :=
  k0_pay42 v61 (k0_pay18 v61 (k0_pay13 v61 (k0_pay5 v61 k0_pay46 (ld 0) (ld 1)) (ld 2) (ld 3) (ld 4)) (ld 5) (ld 6))
    (k0_pay20 v61 (k0_pay11 v61 (k0_pay3 v61 k0_pay46 (ld 0) (g 0)) (k0_pay4 v61 (ld 1)) (g 1) (ld 2) (g 2) (ld 3) (g 3))
      (k0_pay12 v61 (ld 4)) (g 4) (ld 5) (g 5) (ld 6) (g 6)) (ld 7) (g 7)

/-- The offsets at which the group `t` reads neighbour `k`. -/
def offIn (t : Fin k0_t2_loop.trips) : Fin 8 → Fin 4 → ℕ
  | 0 => k0_off7 t | 1 => k0_off8 t | 2 => k0_off9 t | 3 => k0_off10 t
  | 4 => k0_off11 t | 5 => k0_off12 t | 6 => k0_off13 t | 7 => k0_off14 t

theorem offIn_inb (t : Fin k0_t2_loop.trips) : ∀ k a, offIn t k a + S1x1x1x16.size a ≤ S2x3x8x128.size a
  | 0 => k0_off7_inb t | 1 => k0_off8_inb t | 2 => k0_off9_inb t | 3 => k0_off10_inb t
  | 4 => k0_off11_inb t | 5 => k0_off12_inb t | 6 => k0_off13_inb t | 7 => k0_off14_inb t

section Body
variable (d : Dev nD) (i : grid0.Coords)
variable (arg2 : Memref sig .scVector .hbm S400000 .f32) (harg2 : arg2.IsWhole) (arg3 : Memref sig .scVector .hbm S4x2x384x3x8x128 .f32) (harg3 : arg3.IsWhole)
  (arg4 : Memref sig .scVector .hbm S16 .f32) (harg4 : arg4.IsWhole) (arg5 : Memref sig .scVector .hbm S4x384x3x4x128 .f32) (harg5 : arg5.IsWhole)
  (arg6 : Memref sig .scVector .vmem S100000 .f32) (harg6 : arg6.IsWhole) (arg7 : Memref sig .scVector .vmem S2x3x8x128 .f32) (harg7 : arg7.IsWhole)
  (arg8 : Memref sig .scVector .vmem S2x3x8x128 .f32) (harg8 : arg8.IsWhole) (arg9 : Memref sig .scVector .vmem S2x3x8x128 .f32) (harg9 : arg9.IsWhole)
  (arg10 : Memref sig .scVector .vmem S2x3x8x128 .f32) (harg10 : arg10.IsWhole) (arg11 : Memref sig .scVector .vmem S2x3x128 .f32) (harg11 : arg11.IsWhole)
  (arg12 : Memref sig .scVector .vmem S2x3x128 .f32) (harg12 : arg12.IsWhole) (arg13 : Memref sig .scVector .vmem S16 .f32) (harg13 : arg13.IsWhole)
  (arg14 arg15 arg16 arg17 arg18 arg19 r0 r1 : DmaSems sig S_) (v56 : BitVec 32) (v61 : FVec F S16 .f32) (c0 c1 : BitVec 32) (t1 : Fin k0_t1_loop.trips)

/-- What group `t` reads of a block of distances or of indices for neighbour `k`. -/
abbrev ldAt (a : Memref sig .scVector .vmem S2x3x8x128 .f32) (f : Buf (Elt F) (a.view.loc (thr d i))) (t : Fin k0_t2_loop.trips) (k : Fin 8) : Vec F S1x1x1x16 .f32 :=
  a.view.readAt (Elt F) (rIn (offIn t k) (offIn_inb t k)).toLoadRect f

/-- The rectangle of the slot's results the group `t` fills. -/
abbrev rOut (t : Fin k0_t2_loop.trips) : Rect S2x3x128 := Rect.unit (s := S2x3x128) (k0_off15 t) S1x1x16.size (k0_off15_inb t)

/-- The group's run: with every index it reads a row of the column, its sixteen results land in the slot's block. -/
theorem body_t2 (t : Fin k0_t2_loop.trips) {fc : Buf (Elt F) (arg6.view.loc (thr d i))} {fd : Buf (Elt F) (arg7.view.loc (thr d i))}
    {fi : Buf (Elt F) (arg9.view.loc (thr d i))} {fo : Buf (Elt F) (arg11.view.loc (thr d i))}
    (hix : ∀ k, ∀ a x, ((![ix (ldAt d i arg9 fi t k)] : Fin 1 → IVec S16 32) a x).toNat < S100000.size a) :
    iprop((arg6.view.loc (thr d i) ↦{fullShare} fc) ∗ (arg7.view.loc (thr d i) ↦{fullShare} fd) ∗ (arg9.view.loc (thr d i) ↦{fullShare} fi)
        ∗ (arg11.view.loc (thr d i) ↦{fullShare} fo))
      ⊢ wp (M := MM F) frame (wpE (defs₀ (F := F)) 𝒱₀ (thr d i) none) Set.univ
          (k0_t2_body i arg2 harg2 arg3 harg3 arg4 harg4 arg5 harg5 arg6 harg6 arg7 harg7 arg8 harg8 arg9 harg9 arg10 harg10 arg11 harg11 arg12 harg12 arg13 harg13
            arg14 arg15 arg16 arg17 arg18 arg19 r0 r1 v56 v61 k0_pay46 c0 c1 t1 t ())
          fun _ => iprop((arg6.view.loc (thr d i) ↦{fullShare} fc) ∗ (arg7.view.loc (thr d i) ↦{fullShare} fd) ∗ (arg9.view.loc (thr d i) ↦{fullShare} fi)
            ∗ (arg11.view.loc (thr d i) ↦{fullShare} (arg11.access (rOut t)).write (Elt F) fo
                (shapeCast S1x1x16 (grp v61 (ldAt d i arg7 fd t) fun k => loadIdx ((arg6.access (.whole S100000)).read (Elt F) fc) ![ix (ldAt d i arg9 fi t k)] (hix k))
                  shapeCasts_S16_S1x1x16) Finset.univ)) := by
  sl_unfold [k0_t2_body]
  simp only [k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iintro ⟨Hc, Hd, Hi, Ho⟩
  ihave H : iprop((arg6.view.loc (thr d i) ↦{fullShare} fc) ∗ (arg7.view.loc (thr d i) ↦{fullShare} fd) ∗ (arg9.view.loc (thr d i) ↦{fullShare} fi)) $$ [Hc Hd Hi]
  · isplitl [Hc]; · iexact Hc
    isplitl [Hd]; · iexact Hd
    iexact Hi
  iapply (wp_neighbour (d := d) (i := i) (a6 := arg6) (a7 := arg7) (a9 := arg9) (k0_off7 t) (P := k0_chk1) (dec := k0_chk1.dec) (hb := k0_idx1_inb) (fc := fc) (fd := fd) (fi := fi) (hix 0)) $$ [H]
  · iexact H
  iintro H
  iapply (wp_neighbour (d := d) (i := i) (a6 := arg6) (a7 := arg7) (a9 := arg9) (k0_off8 t) (P := k0_chk2) (dec := k0_chk2.dec) (hb := k0_idx2_inb) (fc := fc) (fd := fd) (fi := fi) (hix 1)) $$ [H]
  · iexact H
  iintro H
  iapply (wp_neighbour (d := d) (i := i) (a6 := arg6) (a7 := arg7) (a9 := arg9) (k0_off9 t) (P := k0_chk3) (dec := k0_chk3.dec) (hb := k0_idx3_inb) (fc := fc) (fd := fd) (fi := fi) (hix 2)) $$ [H]
  · iexact H
  iintro H
  iapply (wp_neighbour (d := d) (i := i) (a6 := arg6) (a7 := arg7) (a9 := arg9) (k0_off10 t) (P := k0_chk4) (dec := k0_chk4.dec) (hb := k0_idx4_inb) (fc := fc) (fd := fd) (fi := fi) (hix 3)) $$ [H]
  · iexact H
  iintro H
  iapply (wp_neighbour (d := d) (i := i) (a6 := arg6) (a7 := arg7) (a9 := arg9) (k0_off11 t) (P := k0_chk5) (dec := k0_chk5.dec) (hb := k0_idx5_inb) (fc := fc) (fd := fd) (fi := fi) (hix 4)) $$ [H]
  · iexact H
  iintro H
  iapply (wp_neighbour (d := d) (i := i) (a6 := arg6) (a7 := arg7) (a9 := arg9) (k0_off12 t) (P := k0_chk6) (dec := k0_chk6.dec) (hb := k0_idx6_inb) (fc := fc) (fd := fd) (fi := fi) (hix 5)) $$ [H]
  · iexact H
  iintro H
  iapply (wp_neighbour (d := d) (i := i) (a6 := arg6) (a7 := arg7) (a9 := arg9) (k0_off13 t) (P := k0_chk7) (dec := k0_chk7.dec) (hb := k0_idx7_inb) (fc := fc) (fd := fd) (fi := fi) (hix 6)) $$ [H]
  · iexact H
  iintro H
  iapply (wp_neighbour (d := d) (i := i) (a6 := arg6) (a7 := arg7) (a9 := arg9) (k0_off14 t) (P := k0_chk8) (dec := k0_chk8.dec) (hb := k0_idx8_inb) (fc := fc) (fd := fd) (fi := fi) (hix 7)) $$ [H]
  · iexact H
  iintro H
  iapply (wp_load 𝒱₀ (thr d i) none Set.univ (m := arg11) (S := Finset.univ) (Finset.subset_univ _)) $$ Ho
  iintro Ho
  iapply (wp_store 𝒱₀ (thr d i) none Set.univ (m := arg11) (r := rOut t) (Mk := Finset.univ) (S := Finset.univ) (Finset.subset_univ _)) $$ Ho
  iintro Ho
  rw [wp_ret]; imodintro
  icases H with ⟨Hc, Hd, Hi⟩
  isplitl [Hc]; · iexact Hc
  isplitl [Hd]; · iexact Hd
  isplitl [Hi]; · iexact Hi
  iexact Ho

/-- The second slot's groups are the first slot's over the second slot's blocks. -/
theorem t3_eq_t2 (v62 : FVec F S16 .f32) (x0 x1 x2 : BitVec 32) :
    k0_t3_body i arg2 harg2 arg3 harg3 arg4 harg4 arg5 harg5 arg6 harg6 arg7 harg7 arg8 harg8 arg9 harg9 arg10 harg10 arg11 harg11 arg12 harg12 arg13 harg13
        arg14 arg15 arg16 arg17 arg18 arg19 r0 r1 v56 v61 v62 t1 x0 x1 x2
      = k0_t2_body i arg2 harg2 arg3 harg3 arg4 harg4 arg5 harg5 arg6 harg6 arg8 harg8 arg7 harg7 arg10 harg10 arg9 harg9 arg12 harg12 arg11 harg11 arg13 harg13
        arg14 arg15 arg16 arg17 arg18 arg19 r0 r1 v56 v61 v62 c0 c1 t1 := rfl

end Body

end Cert.Proof.K
-- ==== Proof.Block.lean ====
/-
  A slot's block of results: what one pixel of one channel is, as a function of the scale, its eight distances and its
  eight table values; and the loop over the block's forty-eight groups, which leaves that function of the slot's
  blocks of distances and indices in the slot's block of results.
-/
module

public import proofs.«01_k».proof.Proof.Inner
public import Idealize.ShloMosaic.Lib.PointwiseCore

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One pixel -/

/-- Zero, as the kernel writes it. -/
def z0 : F .f32 := Scalar.ofBits .f32 0x00000000#32
/-- A neighbour's weight: the exponential of its squared distance times the scale. -/
def wt (s x : F .f32) : F .f32 := FloatOps.exp (FloatOps.mulf (FloatOps.mulf x x) s)
/-- The sum of the eight weights, from the left. -/
def wsum (s : F .f32) (x : Fin 8 → F .f32) : F .f32 :=
  FloatOps.addf (FloatOps.addf (FloatOps.addf (FloatOps.addf (FloatOps.addf (FloatOps.addf (FloatOps.addf (FloatOps.addf z0
    (wt s (x 0))) (wt s (x 1))) (wt s (x 2))) (wt s (x 3))) (wt s (x 4))) (wt s (x 5))) (wt s (x 6))) (wt s (x 7))
/-- The sum of the eight weighted table values, from the left. -/
def xsum (s : F .f32) (x y : Fin 8 → F .f32) : F .f32 :=
  FloatOps.addf (FloatOps.addf (FloatOps.addf (FloatOps.addf (FloatOps.addf (FloatOps.addf (FloatOps.addf (FloatOps.addf z0
    (FloatOps.mulf (wt s (x 0)) (y 0))) (FloatOps.mulf (wt s (x 1)) (y 1))) (FloatOps.mulf (wt s (x 2)) (y 2))) (FloatOps.mulf (wt s (x 3)) (y 3)))
    (FloatOps.mulf (wt s (x 4)) (y 4))) (FloatOps.mulf (wt s (x 5)) (y 5))) (FloatOps.mulf (wt s (x 6)) (y 6))) (FloatOps.mulf (wt s (x 7)) (y 7))
/-- The pixel: the weighted sum over the sum of the weights plus a small constant, where that sum is positive; else zero. -/
def pt (s : F .f32) (x y : Fin 8 → F .f32) : F .f32 :=
  Scalar.select (FloatOps.cmpf .ogt (wsum s x) z0) (FloatOps.divf (xsum s x y) (FloatOps.addf (wsum s x) (Scalar.ofBits .f32 0x3A83126F#32))) z0

/-- A lane of a group is the pixel of that lane. -/
theorem grp_apply (v61 : FVec F S16 .f32) (ld : Fin 8 → Vec F S1x1x1x16 .f32) (g : Fin 8 → Vec F S16 .f32) (j : S16.Idx) :
    grp v61 ld g j = pt (v61 j) (fun k => ld k (Shape.reshapeEquiv shapeCasts_S1x1x1x16_S16 j)) (fun k => g k j) := rfl

/-- The row of the table a float names. -/
def row (x : F .f32) : S100000.Idx := ix1 ⟨(FloatOps.fptosi 32 x).toNat % 100000, Nat.mod_lt _ (by decide)⟩

/-- The place in a block of distances or indices of neighbour `k` of a place in a block of results. -/
def nbr (j : S2x3x128.Idx) (k : Fin 8) : S2x3x8x128.Idx := ix4 (j 0) (j 1) k (j 2)

/-- A block of results, from the scale by lanes, the column, the block of distances and the block of indices. -/
def blk (v61 : FVec F S16 .f32) (col : S100000.Idx → F .f32) (x y : S2x3x8x128.Idx → F .f32) (j : S2x3x128.Idx) : F .f32 :=
  pt (v61 (ix1 ⟨(j 2).val % 16, Nat.mod_lt _ (by decide)⟩)) (fun k => x (nbr j k)) (fun k => col (row (y (nbr j k))))

/-! ## Where a group lies -/

theorem trips2 : k0_t2_loop.trips = 48 := by decide +kernel

/-- The group of an element of a block of results. -/
def grpOf (j : S2x3x128.Idx) : ℕ := 24 * (j 0).val + 8 * (j 1).val + (j 2).val / 16

theorem grpOf_lt (j : S2x3x128.Idx) : grpOf j < 48 := by
  have h0 : (j 0).val < 2 := (j 0).isLt
  have h1 : (j 1).val < 3 := (j 1).isLt
  have h2 : (j 2).val < 128 := (j 2).isLt
  unfold grpOf; omega

theorem offIn_eq : ∀ (t : Fin k0_t2_loop.trips) (k : Fin 8), offIn t k = ![t.val / 24, t.val % 24 / 8, k.val, 16 * (t.val % 8)] := by
  decide +kernel

theorem off15_eq : ∀ t : Fin k0_t2_loop.trips, k0_off15 t = ![t.val / 24, t.val % 24 / 8, 16 * (t.val % 8)] := by
  decide +kernel

theorem rOut_grp (t : Fin k0_t2_loop.trips) (y : S1x1x16.Idx) : grpOf ((rOut t).emb y) = t.val := by
  have e := off15_eq t
  have ht : t.val < 48 := trips2 ▸ t.isLt
  have h0 : (y 0).val < 1 := (y 0).isLt
  have h1 : (y 1).val < 1 := (y 1).isLt
  have h2 : (y 2).val < 16 := (y 2).isLt
  have e0 := congrFun e 0
  have e1 := congrFun e 1
  have e2 := congrFun e 2
  have g0 : ((rOut t).emb y 0).val = k0_off15 t 0 + 1 * (y 0).val := rfl
  have g1 : ((rOut t).emb y 1).val = k0_off15 t 1 + 1 * (y 1).val := rfl
  have g2 : ((rOut t).emb y 2).val = k0_off15 t 2 + 1 * (y 2).val := rfl
  unfold grpOf
  rw [g0, g1, g2, e0, e1, e2]
  simp only [Matrix.cons_val_zero, Matrix.cons_val_one, Matrix.cons_val]
  omega

theorem exists_of_grp (t : Fin k0_t2_loop.trips) (j : S2x3x128.Idx) (h : grpOf j = t.val) : ∃ y : Fin 16, (rOut t).emb (ix3 0 0 y) = j := by
  have e := off15_eq t
  have h0 : (j 0).val < 2 := (j 0).isLt
  have h1 : (j 1).val < 3 := (j 1).isLt
  have h2 : (j 2).val < 128 := (j 2).isLt
  refine ⟨⟨(j 2).val % 16, Nat.mod_lt _ (by decide)⟩, ?_⟩
  unfold grpOf at h
  funext a; apply Fin.ext
  match a with
  | 0 => show k0_off15 t 0 + 1 * 0 = (j 0).val; rw [e]; simp only [Matrix.cons_val_zero]; omega
  | 1 => show k0_off15 t 1 + 1 * 0 = (j 1).val; rw [e]; simp only [Matrix.cons_val_one, Matrix.cons_val]; omega
  | 2 => show k0_off15 t 2 + 1 * ((j 2).val % 16) = (j 2).val; rw [e]; simp only [Matrix.cons_val]; omega

/-- Lane `l` of what group `t` reads for neighbour `k` is the block's element at the group's place. -/
theorem rIn_emb (t : Fin k0_t2_loop.trips) (k : Fin 8) (l : Fin 16) :
    (rIn (offIn t k) (offIn_inb t k)).emb (Shape.reshapeEquiv shapeCasts_S1x1x1x16_S16 (ix1 l))
      = nbr ((rOut t).emb (ix3 0 0 l)) k := by
  have hr : Shape.reshapeEquiv shapeCasts_S1x1x1x16_S16 (ix1 l) = (ix4 0 0 0 l : S1x1x1x16.Idx) := by
    pointwise
  rw [hr]
  have e := offIn_eq t k
  have e' := off15_eq t
  funext a; apply Fin.ext
  match a with
  | 0 => show offIn t k 0 + 1 * 0 = k0_off15 t 0 + 1 * 0; rw [e, e']; rfl
  | 1 => show offIn t k 1 + 1 * 0 = k0_off15 t 1 + 1 * 0; rw [e, e']; rfl
  | 2 => show offIn t k 2 + 1 * 0 = k.val; rw [e]; rfl
  | 3 => show offIn t k 3 + 1 * l.val = k0_off15 t 2 + 1 * l.val; rw [e, e']; rfl

/-! ## The loop over the groups -/

section Loop
variable (d : Dev nD) (i : grid0.Coords)
variable (a6 : Memref sig .scVector .vmem S100000 .f32) (a7 a9 : Memref sig .scVector .vmem S2x3x8x128 .f32) (a11 : Memref sig .scVector .vmem S2x3x128 .f32)
variable (v61 : FVec F S16 .f32) (fc : Buf (Elt F) (a6.view.loc (thr d i))) (fd : Buf (Elt F) (a7.view.loc (thr d i))) (fi : Buf (Elt F) (a9.view.loc (thr d i)))

/-- The column a subcore keeps, as it is gathered from. -/
abbrev colOf : S100000.Idx → F .f32 := (a6.access (.whole S100000)).read (Elt F) fc

/-- Every index of a slot's block names a row of the column. -/
abbrev InRange (y : S2x3x8x128.Idx → F .f32) : Prop := ∀ j, (FloatOps.fptosi 32 (y j) : BitVec 32).toNat < 100000

/-- What one group's lane holds is the block's result at the group's place. -/
theorem grp_blk (t : Fin k0_t2_loop.trips) (hI : InRange (a9.view.read (Elt F) fi))
    (hix : ∀ k, ∀ a x, ((![ix (ldAt d i a9 fi t k)] : Fin 1 → IVec S16 32) a x).toNat < S100000.size a) (l : Fin 16) :
    (shapeCast S1x1x16 (grp v61 (ldAt d i a7 fd t) fun k => loadIdx (colOf d i a6 fc) ![ix (ldAt d i a9 fi t k)] (hix k)) shapeCasts_S16_S1x1x16) (ix3 0 0 l)
      = blk v61 (colOf d i a6 fc) (a7.view.read (Elt F) fd) (a9.view.read (Elt F) fi) ((rOut t).emb (ix3 0 0 l)) := by
  have hr : Shape.reshapeEquiv shapeCasts_S16_S1x1x16 (ix3 0 0 l) = (ix1 l : S16.Idx) := by pointwise
  have h2 : ((rOut t).emb (ix3 0 0 l) 2).val % 16 = l.val := by
    have e := off15_eq t
    show (k0_off15 t 2 + 1 * l.val) % 16 = l.val
    rw [e]; simp only [Matrix.cons_val]; have := l.isLt; omega
  have h61 : (ix1 ⟨((rOut t).emb (ix3 0 0 l) 2).val % 16, Nat.mod_lt _ (by decide)⟩ : S16.Idx) = ix1 l := by
    congr 1; exact Fin.ext h2
  show grp _ _ _ (Shape.reshapeEquiv shapeCasts_S16_S1x1x16 (ix3 0 0 l)) = _
  rw [hr, grp_apply]
  unfold blk
  rw [h61]
  have hx : ∀ k, ldAt d i a7 fd t k (Shape.reshapeEquiv shapeCasts_S1x1x1x16_S16 (ix1 l)) = a7.view.read (Elt F) fd (nbr ((rOut t).emb (ix3 0 0 l)) k) :=
    fun k => congrArg (a7.view.read (Elt F) fd) (rIn_emb t k l)
  have hy : ∀ k, ldAt d i a9 fi t k (Shape.reshapeEquiv shapeCasts_S1x1x1x16_S16 (ix1 l)) = a9.view.read (Elt F) fi (nbr ((rOut t).emb (ix3 0 0 l)) k) :=
    fun k => congrArg (a9.view.read (Elt F) fi) (rIn_emb t k l)
  have hg : ∀ k, loadIdx (F := F) (s := S100000) (t := S16) (e := .f32) (colOf d i a6 fc) ![ix (ldAt d i a9 fi t k)] (hix k) (ix1 l)
      = colOf d i a6 fc (row (a9.view.read (Elt F) fi (nbr ((rOut t).emb (ix3 0 0 l)) k))) := fun k => by
    rw [← hy k]
    show colOf d i a6 fc _ = _
    congr 1
    funext a; apply Fin.ext
    match a with
    | 0 =>
      show _ = (FloatOps.fptosi 32 _ : BitVec 32).toNat % 100000
      rw [Nat.mod_eq_of_lt (by rw [hy k]; exact hI _)]
      rfl
  simp only [hx, hg]

/-- Every index a group reads names a row of the column. -/
theorem ix_lt (t : Fin k0_t2_loop.trips) (hI : InRange (a9.view.read (Elt F) fi)) :
    ∀ k, ∀ a x, ((![ix (ldAt d i a9 fi t k)] : Fin 1 → IVec S16 32) a x).toNat < S100000.size a := fun k a x => by
  match a with
  | 0 => exact hI ((rIn (offIn t k) (offIn_inb t k)).emb (Shape.reshapeEquiv shapeCasts_S1x1x1x16_S16 x))

/-- What a slot holds before group `t`: its blocks, and the results of the groups before. -/
def blkInv (t : ℕ) : sProp (MM F) :=
  iprop((a6.view.loc (thr d i) ↦{fullShare} fc) ∗ (a7.view.loc (thr d i) ↦{fullShare} fd) ∗ (a9.view.loc (thr d i) ↦{fullShare} fi)
    ∗ ∃ fo, ⌜∀ j, grpOf j < t → a11.view.read (Elt F) fo j = blk v61 (colOf d i a6 fc) (a7.view.read (Elt F) fd) (a9.view.read (Elt F) fi) j⌝
      ∗ (a11.view.loc (thr d i) ↦{fullShare} fo))

variable (arg2 : Memref sig .scVector .hbm S400000 .f32) (harg2 : arg2.IsWhole) (arg3 : Memref sig .scVector .hbm S4x2x384x3x8x128 .f32) (harg3 : arg3.IsWhole)
  (arg4 : Memref sig .scVector .hbm S16 .f32) (harg4 : arg4.IsWhole) (arg5 : Memref sig .scVector .hbm S4x384x3x4x128 .f32) (harg5 : arg5.IsWhole)
  (harg6 : a6.IsWhole) (harg7 : a7.IsWhole)
  (arg8 : Memref sig .scVector .vmem S2x3x8x128 .f32) (harg8 : arg8.IsWhole) (harg9 : a9.IsWhole)
  (arg10 : Memref sig .scVector .vmem S2x3x8x128 .f32) (harg10 : arg10.IsWhole) (harg11 : a11.IsWhole)
  (arg12 : Memref sig .scVector .vmem S2x3x128 .f32) (harg12 : arg12.IsWhole) (arg13 : Memref sig .scVector .vmem S16 .f32) (harg13 : arg13.IsWhole)
  (arg14 arg15 arg16 arg17 arg18 arg19 r0 r1 : DmaSems sig S_) (v56 : BitVec 32) (c0 c1 : BitVec 32) (t1 : Fin k0_t1_loop.trips)

/-- A group takes the slot from its state before the group to its state after. -/
theorem blk_step (hI : InRange (a9.view.read (Elt F) fi)) (t : Fin k0_t2_loop.trips) (u : Unit) :
    blkInv d i a6 a7 a9 a11 v61 fc fd fi t.val
      ⊢ wp (M := MM F) frame (wpE (defs₀ (F := F)) 𝒱₀ (thr d i) none) Set.univ
          (k0_t2_body i arg2 harg2 arg3 harg3 arg4 harg4 arg5 harg5 a6 harg6 a7 harg7 arg8 harg8 a9 harg9 arg10 harg10 a11 harg11 arg12 harg12 arg13 harg13
            arg14 arg15 arg16 arg17 arg18 arg19 r0 r1 v56 v61 k0_pay46 c0 c1 t1 t u)
          fun _ => blkInv d i a6 a7 a9 a11 v61 fc fd fi (t.val + 1) := by
  have hix := ix_lt d i a9 fi t hI
  unfold blkInv
  iintro ⟨Hc, Hd, Hi, %fo, %hfo, Ho⟩
  iapply (wp_wand_r frame (wpE (defs₀ (F := F)) 𝒱₀ (thr d i) none) Set.univ)
  isplitl
  · iapply (body_t2 d i arg2 harg2 arg3 harg3 arg4 harg4 arg5 harg5 a6 harg6 a7 harg7 arg8 harg8 a9 harg9 arg10 harg10 a11 harg11 arg12 harg12 arg13 harg13
      arg14 arg15 arg16 arg17 arg18 arg19 r0 r1 v56 v61 c0 c1 t1 t (fc := fc) (fd := fd) (fi := fi) (fo := fo) hix)
    isplitl [Hc]; · iexact Hc
    isplitl [Hd]; · iexact Hd
    isplitl [Hi]; · iexact Hi
    iexact Ho
  iintro %_ ⟨Hc, Hd, Hi, Ho⟩
  isplitl [Hc]; · iexact Hc
  isplitl [Hd]; · iexact Hd
  isplitl [Hi]; · iexact Hi
  iexists _
  isplitr
  swap
  · iexact Ho
  ipureintro
  intro j hj
  by_cases h : grpOf j = t.val
  · obtain ⟨l, rfl⟩ := exists_of_grp t j h
    rw [← grp_blk d i a6 a7 a9 v61 fc fd fi t hI hix l]
    exact View.read_slice_write_emb (rOut t) fo _ (Finset.mem_univ _)
  · rw [← hfo j (by omega)]
    refine View.read_slice_write_of_not_mem (rOut t) fo _ Finset.univ fun hm => h ?_
    obtain ⟨y, -, rfl⟩ := Finset.mem_map.mp hm
    exact rOut_grp t y

end Loop

end Cert.Proof.K
-- ==== Proof.Offsets.lean ====
/-
  A subcore's share of the work, and the closed forms of the offsets its transfers' windows start at.
-/
module

public import proofs.«01_k».proof.Proof.Setup

@[expose] public section

set_option maxRecDepth 16384

noncomputable section

namespace Cert.Proof.K

open Cert.KernelIdeal Cert.KernelIdeal.Gen

open Idealize.ShloMosaic
open Idealize.ShloMosaic.SparseCore (S V T)

variable {F : FTy → Type} [FloatOps F]

/-! ## A subcore's share of the work -/

/-- The subcore's number among the thirty-two. -/
def wid (i : grid0.Coords) : ℕ := 2 * (i 1).val + (i 0).val
/-- Its channel. -/
def chn (i : grid0.Coords) : ℕ := wid i % 4
/-- Its image. -/
def img (i : grid0.Coords) : ℕ := wid i / 8
/-- Its first row. -/
def row0 (i : grid0.Coords) : ℕ := wid i / 4 % 2 * 192

theorem wid_lt (i : grid0.Coords) : wid i < 32 := by
  have h0 : (i 0).val < 2 := (i 0).isLt
  have h1 : (i 1).val < 16 := (i 1).isLt
  unfold wid; omega
theorem chn_lt (i : grid0.Coords) : chn i < 4 := Nat.mod_lt _ (by decide)
theorem img_lt (i : grid0.Coords) : img i < 4 := by have := wid_lt i; unfold img; omega
theorem row0_le (i : grid0.Coords) : row0 i ≤ 192 := by unfold row0; omega

theorem trips1 : k0_t1_loop.trips = 48 := by decide +kernel
theorem trips3 : k0_t3_loop.trips = 48 := by decide +kernel

/-! ## The windows' offsets -/

/-- A grid point from its two coordinates. -/
abbrev gp (c : Fin 2) (s : Fin 16) : grid0.Coords := fun | 0 => c | 1 => s | ⟨_ + 2, h⟩ => absurd h (Nat.not_lt.2 (Nat.le_add_left _ _))

theorem gp_eta (i : grid0.Coords) : gp (i 0) (i 1) = i := by
  funext a
  match a with
  | 0 => rfl
  | 1 => rfl
  | ⟨_ + 2, h⟩ => exact absurd h (Nat.not_lt.2 (Nat.le_add_left _ _))

/-- The offset of the window of the pairs for channel `q` and the block of rows from `r`. -/
abbrev offP (i : grid0.Coords) (q r : ℕ) : Fin 6 → ℕ := ![img i, q, row0 i + r, 0, 0, 0]
/-- The offset of the window of the result for the block of rows from `r`. -/
abbrev offO (i : grid0.Coords) (r : ℕ) : Fin 5 → ℕ := ![img i, row0 i + r, 0, chn i, 0]

theorem off1_eq (i : grid0.Coords) : k0_off1 i = ![chn i * 100000] := by
  rw [← gp_eta i]; generalize i 0 = c, i 1 = s
  revert c s; decide +kernel

theorem off2_eq (i : grid0.Coords) : ∀ r : Fin 2, k0_off2 i (BitVec.ofNat 32 (2 * r.val)) = offP i 0 (2 * r.val) := by
  rw [← gp_eta i]; generalize i 0 = c, i 1 = s
  revert c s; decide +kernel

theorem off3_eq (i : grid0.Coords) : ∀ r : Fin 2, k0_off3 i (BitVec.ofNat 32 (2 * r.val)) = offP i 1 (2 * r.val) := by
  rw [← gp_eta i]; generalize i 0 = c, i 1 = s
  revert c s; decide +kernel

theorem off16_eq (i : grid0.Coords) : ∀ (t : Fin k0_t1_loop.trips) (r : Fin 2), k0_off16 i t (BitVec.ofNat 32 r.val) = offO i (2 * (2 * t.val + r.val)) := by
  rw [← gp_eta i]; generalize i 0 = c, i 1 = s
  revert c s; decide +kernel

theorem off17_eq (i : grid0.Coords) : ∀ t : Fin k0_t1_loop.trips, k0_off17 i t = offP i 0 (2 * (2 * (t.val + 1) + 0)) := by
  rw [← gp_eta i]; generalize i 0 = c, i 1 = s
  revert c s; decide +kernel

theorem off18_eq (i : grid0.Coords) : ∀ t : Fin k0_t1_loop.trips, k0_off18 i t = offP i 1 (2 * (2 * (t.val + 1) + 0)) := by
  rw [← gp_eta i]; generalize i 0 = c, i 1 = s
  revert c s; decide +kernel

theorem off29_eq (i : grid0.Coords) : ∀ t : Fin k0_t1_loop.trips, k0_off29 i t = offP i 0 (2 * (2 * (t.val + 1) + 1)) := by
  rw [← gp_eta i]; generalize i 0 = c, i 1 = s
  revert c s; decide +kernel

theorem off30_eq (i : grid0.Coords) : ∀ t : Fin k0_t1_loop.trips, k0_off30 i t = offP i 1 (2 * (2 * (t.val + 1) + 1)) := by
  rw [← gp_eta i]; generalize i 0 = c, i 1 = s
  revert c s; decide +kernel

/-- The branches on the trip: the results' windows are waited for from the second trip on, the next blocks are fetched until the last but one. -/
theorem cond1_iff : ∀ t : Fin k0_t1_loop.trips, k0_cond1 t = 1#1 ↔ ¬ t.val = 0 := by decide +kernel
theorem cond2_iff : ∀ t : Fin k0_t1_loop.trips, k0_cond2 t = 1#1 ↔ t.val + 1 < 48 := by decide +kernel
theorem cond3_iff : ∀ t : Fin k0_t1_loop.trips, k0_cond3 t = 1#1 ↔ ¬ t.val = 0 := by decide +kernel
theorem cond4_iff : ∀ t : Fin k0_t1_loop.trips, k0_cond4 t = 1#1 ↔ t.val + 1 < 48 := by decide +kernel

end Cert.Proof.K
-- ==== Proof.Windows.lean ====
/-
  Where a subcore's transfers read and write in the arrays: what a window of the pairs reads,
  and which elements of the result a window covers.
-/
module

public import proofs.«01_k».proof.Proof.Block
public import proofs.«01_k».proof.Proof.Offsets

@[expose] public section

set_option maxRecDepth 16384

noncomputable section

namespace Cert.Proof.K

open Cert.KernelIdeal Cert.KernelIdeal.Gen

open Idealize.ShloMosaic
open Idealize.ShloMosaic.SparseCore (S V T)

variable {F : FTy → Type} [FloatOps F]

theorem eta4 (j : S2x3x8x128.Idx) : j = ix4 (j 0) (j 1) (j 2) (j 3) := by
  funext a
  match a with
  | 0 => rfl
  | 1 => rfl
  | 2 => rfl
  | 3 => rfl

theorem eta3 (j : S2x3x128.Idx) : j = ix3 (j 0) (j 1) (j 2) := by
  funext a
  match a with
  | 0 => rfl
  | 1 => rfl
  | 2 => rfl

/-! ## The pairs' windows -/

/-- A window of the pairs. -/
abbrev winP (off : Fin 6 → ℕ) (h : ∀ a, off a + S1x1x2x3x8x128.size a ≤ S4x2x384x3x8x128.size a) : Memref sig .scVector .hbm S2x3x8x128 .f32 :=
  (mPairs.slice (Rect.unit off S1x1x2x3x8x128.size h) (fun _ => rfl)).squeeze S2x3x8x128 squeezes_S1x1x2x3x8x128_S2x3x8x128

/-- The place in the pairs, on channel `q`, of a place in block `n` of the subcore. -/
def placeP (i : grid0.Coords) (q : Fin 2) (n : ℕ) (j : S2x3x8x128.Idx) : S4x2x384x3x8x128.Idx :=
  ix6 ⟨img i, img_lt i⟩ q ⟨(row0 i + 2 * n + (j 0).val) % 384, Nat.mod_lt _ (by decide)⟩ (j 1) (j 2) (j 3)

theorem winP_emb (i : grid0.Coords) (q : Fin 2) (n : ℕ) (hn : n < 96) (off : Fin 6 → ℕ) (h : ∀ a, off a + S1x1x2x3x8x128.size a ≤ S4x2x384x3x8x128.size a)
    (e : off = offP i q.val (2 * n)) (j : S2x3x8x128.Idx) : (winP off h).view.emb j = placeP i q n j := by
  subst e
  have hr0 := row0_le i
  have hj0 : (j 0).val < 2 := (j 0).isLt
  have hmod : (row0 i + 2 * n + (j 0).val) % 384 = row0 i + 2 * n + (j 0).val := Nat.mod_eq_of_lt (by omega)
  have hr : Shape.reshapeEquiv (Shape.Squeezes.numel_eq squeezes_S1x1x2x3x8x128_S2x3x8x128) j = (ix6 0 0 (j 0) (j 1) (j 2) (j 3) : S1x1x2x3x8x128.Idx) := by
    conv_lhs => rw [eta4 j]
    pointwise
  show (Rect.unit (s := S4x2x384x3x8x128) _ S1x1x2x3x8x128.size h).emb (Shape.reshapeEquiv _ j) = _
  rw [hr]
  funext a; apply Fin.ext
  match a with
  | 0 => show img i + 1 * 0 = img i; omega
  | 1 => show q.val + 1 * 0 = q.val; omega
  | 2 => show row0 i + 2 * n + 1 * (j 0).val = (row0 i + 2 * n + (j 0).val) % 384; omega
  | 3 => show 0 + 1 * (j 1).val = (j 1).val; omega
  | 4 => show 0 + 1 * (j 2).val = (j 2).val; omega
  | 5 => show 0 + 1 * (j 3).val = (j 3).val; omega

/-! ## The result's windows -/

/-- A window of the result. -/
abbrev winO (off : Fin 5 → ℕ) (h : ∀ a, off a + S1x2x3x1x128.size a ≤ S4x384x3x4x128.size a) : Memref sig .scVector .hbm S2x3x128 .f32 :=
  (mOut.slice (Rect.unit off S1x2x3x1x128.size h) (fun _ => rfl)).squeeze S2x3x128 squeezes_S1x2x3x1x128_S2x3x128

/-- The place in the result of a place in block `n` of the subcore. -/
def placeO (i : grid0.Coords) (n : ℕ) (j : S2x3x128.Idx) : S4x384x3x4x128.Idx :=
  ix5 ⟨img i, img_lt i⟩ ⟨(row0 i + 2 * n + (j 0).val) % 384, Nat.mod_lt _ (by decide)⟩ (j 1) ⟨chn i, chn_lt i⟩ (j 2)

theorem winO_emb (i : grid0.Coords) (n : ℕ) (hn : n < 96) (off : Fin 5 → ℕ) (h : ∀ a, off a + S1x2x3x1x128.size a ≤ S4x384x3x4x128.size a)
    (e : off = offO i (2 * n)) (j : S2x3x128.Idx) : (winO off h).view.emb j = placeO i n j := by
  subst e
  have hr0 := row0_le i
  have hj0 : (j 0).val < 2 := (j 0).isLt
  have hmod : (row0 i + 2 * n + (j 0).val) % 384 = row0 i + 2 * n + (j 0).val := Nat.mod_eq_of_lt (by omega)
  have hr : Shape.reshapeEquiv (Shape.Squeezes.numel_eq squeezes_S1x2x3x1x128_S2x3x128) j = (ix5 0 (j 0) (j 1) 0 (j 2) : S1x2x3x1x128.Idx) := by
    conv_lhs => rw [eta3 j]
    pointwise
  show (Rect.unit (s := S4x384x3x4x128) _ S1x2x3x1x128.size h).emb (Shape.reshapeEquiv _ j) = _
  rw [hr]
  funext a; apply Fin.ext
  match a with
  | 0 => show img i + 1 * 0 = img i; omega
  | 1 => show row0 i + 2 * n + 1 * (j 0).val = (row0 i + 2 * n + (j 0).val) % 384; omega
  | 2 => show 0 + 1 * (j 1).val = (j 1).val; omega
  | 3 => show chn i + 1 * 0 = chn i; omega
  | 4 => show 0 + 1 * (j 2).val = (j 2).val; omega

/-! ## The slots' pieces of the result -/

/-- The number of the subcore that writes an element of the result. -/
def ownerOf (x : S4x384x3x4x128.Idx) : ℕ := ((x 0).val * 2 + (x 1).val / 192) * 4 + (x 3).val
/-- The slot it is written from. -/
def slotOf (x : S4x384x3x4x128.Idx) : ℕ := (x 1).val / 2 % 2
/-- The trip it is written on. -/
def tripOf (x : S4x384x3x4x128.Idx) : ℕ := (x 1).val % 192 / 4

/-- The elements of the result that subcore `w` writes from slot `r`. -/
def piece (w r : ℕ) : Finset S4x384x3x4x128.Idx := Finset.univ.filter fun x => ownerOf x = w ∧ slotOf x = r

theorem mem_piece {w r : ℕ} {x : S4x384x3x4x128.Idx} : x ∈ piece w r ↔ ownerOf x = w ∧ slotOf x = r := by simp [piece]

theorem tripOf_lt (x : S4x384x3x4x128.Idx) : tripOf x < 48 := by
  unfold tripOf; omega

/-- A block's places lie in the slot's piece and on the trip. -/
theorem placeO_piece (i : grid0.Coords) (t r : ℕ) (ht : t < 48) (hr : r < 2) (j : S2x3x128.Idx) :
    placeO i (2 * t + r) j ∈ piece (wid i) r ∧ tripOf (placeO i (2 * t + r) j) = t := by
  have hw := wid_lt i
  have hj0 : (j 0).val < 2 := (j 0).isLt
  have h0 : (placeO i (2 * t + r) j 0).val = wid i / 8 := rfl
  have h1 : (placeO i (2 * t + r) j 1).val = (wid i / 4 % 2 * 192 + 2 * (2 * t + r) + (j 0).val) % 384 := rfl
  have h3 : (placeO i (2 * t + r) j 3).val = wid i % 4 := rfl
  rw [mem_piece]; unfold ownerOf slotOf tripOf
  rw [h0, h1, h3]
  refine ⟨⟨?_, ?_⟩, ?_⟩ <;> omega

/-- An element of the slot's piece on a trip is one of the block's places. -/
theorem exists_placeO (i : grid0.Coords) (t r : ℕ) (x : S4x384x3x4x128.Idx) (hx : x ∈ piece (wid i) r) (ht : tripOf x = t) :
    ∃ j, placeO i (2 * t + r) j = x := by
  have hw := wid_lt i
  rw [mem_piece] at hx; unfold ownerOf slotOf at hx; unfold tripOf at ht
  have h0 : (x 0).val < 4 := (x 0).isLt
  have h1 : (x 1).val < 384 := (x 1).isLt
  have h3 : (x 3).val < 4 := (x 3).isLt
  refine ⟨ix3 ⟨(x 1).val % 2, Nat.mod_lt _ (by decide)⟩ (x 2) (x 4), ?_⟩
  funext a; apply Fin.ext
  match a with
  | 0 => show wid i / 8 = (x 0).val; omega
  | 1 => show (wid i / 4 % 2 * 192 + 2 * (2 * t + r) + (x 1).val % 2) % 384 = (x 1).val; omega
  | 2 => rfl
  | 3 => show wid i % 4 = (x 3).val; omega
  | 4 => rfl

theorem winO_set (i : grid0.Coords) (t r : ℕ) (ht : t < 48) (hr : r < 2) (off : Fin 5 → ℕ) (h : ∀ a, off a + S1x2x3x1x128.size a ≤ S4x384x3x4x128.size a)
    (e : off = offO i (2 * (2 * t + r))) : (winO off h).view.set ⊆ piece (wid i) r := by
  intro x hx
  obtain ⟨j, -, rfl⟩ := Finset.mem_map.mp hx
  rw [winO_emb i _ (by omega) off h e j]
  exact (placeO_piece i t r ht hr j).1

/-! ## What the kernel leaves -/

/-- The result's element at a place, from the table by channels, the pairs and the scale by lanes. -/
def outAt (v61 : FVec F S16 .f32) (tab : S400000.Idx → F .f32) (P : S4x2x384x3x8x128.Idx → F .f32) (x : S4x384x3x4x128.Idx) : F .f32 :=
  pt (v61 (ix1 ⟨(x 4).val % 16, Nat.mod_lt _ (by decide)⟩)) (fun k => P (ix6 (x 0) 0 (x 1) (x 2) k (x 4)))
    (fun k => tab (ix1 ⟨(x 3).val * 100000 + (row (P (ix6 (x 0) 1 (x 1) (x 2) k (x 4))) 0).val, by
      have h3 : (x 3).val < 4 := (x 3).isLt
      have h := (row (P (ix6 (x 0) 1 (x 1) (x 2) k (x 4))) 0).isLt
      change _ < 100000 at h
      omega⟩))

/-- The column of a channel of the table. -/
def colAt (tab : S400000.Idx → F .f32) (i : grid0.Coords) (r : S100000.Idx) : F .f32 :=
  tab (ix1 ⟨chn i * 100000 + (r 0).val, by
    have h3 := chn_lt i
    have h : (r 0).val < 100000 := (r 0).isLt
    omega⟩)

/-- A block's results, from the channel's column and the blocks of the pairs, are the result's elements at the block's places. -/
theorem blk_out (v61 : FVec F S16 .f32) (tab : S400000.Idx → F .f32) (P : S4x2x384x3x8x128.Idx → F .f32) (i : grid0.Coords) (n : ℕ) (j : S2x3x128.Idx) :
    blk v61 (colAt tab i) (fun y => P (placeP i 0 n y)) (fun y => P (placeP i 1 n y)) j = outAt v61 tab P (placeO i n j) := rfl

end Cert.Proof.K
-- ==== Proof.Slot.lean ====
/-
  One slot of the double buffer: its transfers in flight between two trips of the loop over blocks, and one trip of it —
  the two blocks waited for, the previous results' copy waited for, the block computed, its results' copy started, the
  next two blocks' copies started.
-/
module

public import proofs.«01_k».proof.Proof.Windows

@[expose] public section

set_option maxRecDepth 16384

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono MayWaits)

variable {F : FTy → Type} [FloatOps F]

/-- The transfers' counters in the resource algebra. -/
abbrev EC : UEmb Counters (MM F) := countersEmb

/-- A transfer in flight also delivers what is laid beside it. -/
theorem Flight_frame (c : Thread nD τ) (sm : SemLoc sig) (N : ℕ) (A X : sProp (MM F)) :
    iprop(Flight EC c sm (none : HIx 1) N A ∗ X) ⊢ Flight EC c sm (none : HIx 1) N iprop(A ∗ X) := by
  unfold Transfers.Flight
  iintro ⟨⟨⟨%R, HR, %hcap, %hpeek⟩, Hcred⟩, HX⟩
  isplitr [Hcred]
  · iexists iprop(R ∗ X)
    isplitl [HR HX]; · isplitl [HR] <;> iassumption
    isplit
    · ipureintro
      intro K
      refine BIBase.Entails.trans ?_ (hcap K)
      iintro ⟨⟨HR, HX⟩, HK⟩
      isplitl [HR]; · iexact HR
      iintro ⟨Hv, HA⟩
      iapply HK
      isplitl [Hv]; · iexact Hv
      isplitl [HA] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

variable (d : Dev nD) (i : grid0.Coords)

/-- A subcore's waits so far are the launch's own, or its transfers'. -/
def owing (O : CellTallies nD τ sig (HIx 1)) (W : Waits sig (HIx 1)) : sProp (MM F) :=
  iprop(∃ W', ⌜∀ p ∈ W', p ∈ W ∨ p.2 = none⌝ ∗ owes (thr d i) O W')

/-! ## A block of the pairs coming in -/

section In
variable (m : Memref sig .scVector .vmem S2x3x8x128 .f32) (sem : DmaSem sig) (q : PosShare TreeShare) (P : S4x2x384x3x8x128.Idx → F .f32)

/-- The units a block's copy counts. -/
abbrev unitsIn : ℕ := m.view.dmaCredit

/-- Block `n` of channel `ch` of the pairs, in a buffer; and the share of the pairs it was read at. -/
def landed (ch : Fin 2) (n : ℕ) : sProp (MM F) :=
  iprop((∃ f, ⌜m.view.read (Elt F) f = fun y => P (placeP i ch n y)⌝ ∗ (m.view.loc (thr d i) ↦{fullShare} f)) ∗ (mPairs.view.loc (thr d i) ↦{q} P))

/-- The block's copy in flight. -/
def inFl (ch : Fin 2) (n : ℕ) : sProp (MM F) := Flight EC (thr d i) (.dma sem) (none : HIx 1) (unitsIn m) (landed d i m q P ch n)

/-- No copy in flight. -/
def inIdle : sProp (MM F) :=
  iprop((∃ f, (m.view.loc (thr d i) ↦{fullShare} f)) ∗ (mPairs.view.loc (thr d i) ↦{q} P) ∗ semVal (thr d i, SemLoc.dma sem) 0)

/-- Before trip `t`: the trip's block in flight, and after the last trip nothing. -/
def inSt (r : ℕ) (ch : Fin 2) (t : ℕ) : sProp (MM F) := if t < 48 then inFl d i m sem q P ch (2 * t + r) else inIdle d i m sem q P

theorem inSt_lt {r : ℕ} {ch : Fin 2} {t : ℕ} (h : t < 48) : inSt d i m sem q P r ch t = inFl d i m sem q P ch (2 * t + r) := if_pos h
theorem inSt_end {r : ℕ} {ch : Fin 2} {t : ℕ} (h : ¬ t < 48) : inSt d i m sem q P r ch t = inIdle d i m sem q P := if_neg h

/-- Starting a block's copy. -/
theorem wp_fetch {ch : Fin 2} {n : ℕ} (hn : n < 96) {off : Fin 6 → ℕ} {h : ∀ a, off a + S1x1x2x3x8x128.size a ≤ S4x2x384x3x8x128.size a}
    (e : off = offP i ch.val (2 * n)) {hs : (winP off h).view.WordExact} {hd : m.view.WordExact}
    {ht : DmaTarget.Typed (nD := nD) (p := (thr d i).2) .hbm (SemLoc.dma sem) (.here m)} {α : Type}
    {k : PUnit → Prog (TpuEff nD τ sig (Elt F) Λ₀ (thr d i).2) α} {Q : α → sProp (MM F)} :
    inIdle d i m sem q P
      ⊢ iprop((inFl d i m sem q P ch n -∗ wp (M := MM F) frame (wpE (defs₀ (F := F)) 𝒱₀ (thr d i) none) Set.univ (k ⟨⟩) Q)
          -∗ wp (M := MM F) frame (wpE (defs₀ (F := F)) 𝒱₀ (thr d i) none) Set.univ
              (.op (.enqueueDma (winP off h) (.here m) (SemLoc.dma sem) hs hd ht) k) Q) := by
  unfold inIdle
  iintro ⟨⟨%f, Hm⟩, HP, Hv⟩ Hk
  ihave HP' := (pointsTo_split_subset (f := P) (q := q) (I := (winP off h).view.set) (S := Finset.univ) (ℓ := mPairs.view.loc (thr d i)) (Finset.subset_univ _)).1 $$ HP
  icases HP' with ⟨Hw, Hrest⟩
  iapply (Transfers.wp_dmaLocal EC 𝒱₀ (thr d i) none (src := winP off h) (dst := m) (none : HIx 1) (unitsIn m) rfl (View.dmaCredit_pos _ (by decide)) (Finset.subset_univ _)) $$ [Hw Hm Hv]
  · isplitl [Hw]; · iexact Hw
    isplitl [Hm]; · iexact Hm
    iexact Hv
  iintro HF
  iapply Hk
  unfold inFl
  ihave HF' := (Flight_frame (thr d i) _ _ _ _) $$ [HF Hrest]
  · isplitl [HF]; · iexact HF
    iexact Hrest
  iapply (Flight_mono EC (thr d i) ?_) $$ HF'
  unfold landed
  iintro ⟨⟨Hm, Hw⟩, Hrest⟩
  isplitl [Hm]
  · iexists _
    isplitr
    swap
    · iexact Hm
    ipureintro
    rw [View.read_write_univ]
    funext y
    exact congrArg P (winP_emb i ch n hn off h e y)
  · iapply (pointsTo_split_subset (f := P) (q := q) (I := (winP off h).view.set) (S := Finset.univ) (ℓ := mPairs.view.loc (thr d i)) (Finset.subset_univ _)).2
    isplitl [Hw] <;> iassumption

/-- Waiting for a block. -/
theorem wp_arrive {ch : Fin 2} {n : ℕ} {O : CellTallies nD τ sig (HIx 1)} {W : Waits sig (HIx 1)} {s' : Shape} {e' : EltTy} {sp' : Space}
    {srcw : Memref sig .scVector sp' s' e'} {hs : srcw.view.WordExact} {hd : m.view.WordExact}
    {α : Type} {k : PUnit → Prog (TpuEff nD τ sig (Elt F) Λ₀ (thr d i).2) α} {Q : α → sProp (MM F)} :
    iprop(inFl d i m sem q P ch n ∗ owing d i O W ∗ MayWaits (thr d i) (none : HIx 1) O)
      ⊢ iprop(((landed d i m q P ch n ∗ semVal (thr d i, SemLoc.dma sem) 0 ∗ owing d i O W)
            -∗ wp (M := MM F) frame (wpE (defs₀ (F := F)) 𝒱₀ (thr d i) none) Set.univ (k ⟨⟩) Q)
          -∗ wp (M := MM F) frame (wpE (defs₀ (F := F)) 𝒱₀ (thr d i) none) Set.univ (.op (.waitDma2 sem srcw m hs hd) k) Q) := by
  unfold inFl owing
  iintro ⟨HF, ⟨%W', %hW, HO⟩, Hmw⟩ Hk
  ihave Hmw' := (MayWaits.elim (SemLoc.dma sem)) $$ Hmw
  iapply (Transfers.wp_waitLocalO EC 𝒱₀ (thr d i) none (none : HIx 1) rfl) $$ [HF HO Hmw']
  · isplitl [HF]; · iexact HF
    isplitl [HO] <;> iassumption
  iintro ⟨HD, Hv, HO⟩
  iapply Hk
  isplitl [HD]; · iexact HD
  isplitl [Hv]; · iexact Hv
  iexists _
  isplitr
  swap
  · iexact HO
  ipureintro
  intro p hp
  rcases Finset.mem_insert.mp hp with hp | hp
  · exact .inr (hp ▸ rfl)
  · exact hW p hp

end In

/-! ## A block of results going out -/

section Out
variable (m : Memref sig .scVector .vmem S2x3x128 .f32) (sem : DmaSem sig) (v61 : FVec F S16 .f32) (tab : S400000.Idx → F .f32) (P : S4x2x384x3x8x128.Idx → F .f32) (r : ℕ)

/-- The units a block of results' copy counts. -/
abbrev unitsOut : ℕ := (winO (fun _ => 0) (by decide)).view.dmaCredit

/-- The slot's piece of the result, the trips before `t` done. -/
def written (t : ℕ) : sProp (MM F) :=
  iprop(∃ f, ⌜∀ x ∈ piece (wid i) r, tripOf x < t → f x = outAt v61 tab P x⌝ ∗ (mOut.view.loc (thr d i) ↦[piece (wid i) r]{fullShare} f))

/-- No copy of results in flight. -/
def outIdle (t : ℕ) : sProp (MM F) :=
  iprop((written d i v61 tab P r t ∗ ∃ fo, (m.view.loc (thr d i) ↦{fullShare} fo)) ∗ semVal (thr d i, SemLoc.dma sem) 0)

/-- The copy of the results of the trip before `t` in flight. -/
def outFl (t : ℕ) : sProp (MM F) :=
  Flight EC (thr d i) (.dma sem) (none : HIx 1) unitsOut iprop(written d i v61 tab P r t ∗ ∃ fo, (m.view.loc (thr d i) ↦{fullShare} fo))

/-- Before trip `t`: the previous trip's results in flight, and before the first nothing. -/
def outSt (t : ℕ) : sProp (MM F) := if t = 0 then outIdle d i m sem v61 tab P r t else outFl d i m sem v61 tab P r t

theorem outSt_zero {t : ℕ} (h : t = 0) : outSt d i m sem v61 tab P r t = outIdle d i m sem v61 tab P r t := if_pos h
theorem outSt_pos {t : ℕ} (h : ¬ t = 0) : outSt d i m sem v61 tab P r t = outFl d i m sem v61 tab P r t := if_neg h

/-- Waiting for a block of results. -/
theorem wp_depart {t : ℕ} {O : CellTallies nD τ sig (HIx 1)} {W : Waits sig (HIx 1)}
    {off : Fin 5 → ℕ} {h : ∀ a, off a + S1x2x3x1x128.size a ≤ S4x384x3x4x128.size a} {hs : m.view.WordExact} {hd : (winO off h).view.WordExact}
    {α : Type} {k : PUnit → Prog (TpuEff nD τ sig (Elt F) Λ₀ (thr d i).2) α} {Q : α → sProp (MM F)} :
    iprop(outFl d i m sem v61 tab P r t ∗ owing d i O W ∗ MayWaits (thr d i) (none : HIx 1) O)
      ⊢ iprop(((outIdle d i m sem v61 tab P r t ∗ owing d i O W)
            -∗ wp (M := MM F) frame (wpE (defs₀ (F := F)) 𝒱₀ (thr d i) none) Set.univ (k ⟨⟩) Q)
          -∗ wp (M := MM F) frame (wpE (defs₀ (F := F)) 𝒱₀ (thr d i) none) Set.univ (.op (.waitDma2 sem m (winO off h) hs hd) k) Q) := by
  unfold outFl outIdle owing
  iintro ⟨HF, ⟨%W', %hW, HO⟩, Hmw⟩ Hk
  ihave Hmw' := (MayWaits.elim (SemLoc.dma sem)) $$ Hmw
  iapply (Transfers.wp_waitLocalO EC 𝒱₀ (thr d i) none (none : HIx 1) rfl) $$ [HF HO Hmw']
  · isplitl [HF]; · iexact HF
    isplitl [HO] <;> iassumption
  iintro ⟨HD, Hv, HO⟩
  iapply Hk
  isplitl [HD Hv]; · isplitl [HD] <;> iassumption
  iexists _
  isplitr
  swap
  · iexact HO
  ipureintro
  intro p hp
  rcases Finset.mem_insert.mp hp with hp | hp
  · exact .inr (hp ▸ rfl)
  · exact hW p hp

/-- Starting a block of results' copy: the trip's elements of the piece become the result's. -/
theorem wp_flush {t : ℕ} (ht : t < 48) (hr : r < 2) (hm : m.IsWhole) {fo : Buf (Elt F) (m.view.loc (thr d i))}
    (hfo : ∀ j, m.view.read (Elt F) fo j = outAt v61 tab P (placeO i (2 * t + r) j))
    {off : Fin 5 → ℕ} {h : ∀ a, off a + S1x2x3x1x128.size a ≤ S4x384x3x4x128.size a} (e : off = offO i (2 * (2 * t + r)))
    {hs : m.view.WordExact} {hd : (winO off h).view.WordExact} {hty : DmaTarget.Typed (nD := nD) (p := (thr d i).2) .vmem (SemLoc.dma sem) (.here (winO off h))}
    {α : Type} {k : PUnit → Prog (TpuEff nD τ sig (Elt F) Λ₀ (thr d i).2) α} {Q : α → sProp (MM F)} :
    iprop(written d i v61 tab P r t ∗ (m.view.loc (thr d i) ↦{fullShare} fo) ∗ semVal (thr d i, SemLoc.dma sem) 0)
      ⊢ iprop((outFl d i m sem v61 tab P r (t + 1) -∗ wp (M := MM F) frame (wpE (defs₀ (F := F)) 𝒱₀ (thr d i) none) Set.univ (k ⟨⟩) Q)
          -∗ wp (M := MM F) frame (wpE (defs₀ (F := F)) 𝒱₀ (thr d i) none) Set.univ
              (.op (.enqueueDma m (.here (winO off h)) (SemLoc.dma sem) hs hd hty) k) Q) := by
  unfold written
  iintro ⟨⟨%f, %hf, Hout⟩, Hm, Hv⟩ Hk
  have hset : m.view.set = Finset.univ := hm.set_eq_univ
  ihave Hm' := (Entails.of_eq (show (m.view.loc (thr d i) ↦{fullShare} fo : sProp (MM F)) = (m.view.loc (thr d i) ↦[m.view.set]{fullShare} fo) by rw [hset])) $$ Hm
  iapply (Transfers.wp_dmaLocal EC 𝒱₀ (thr d i) none (src := m) (dst := winO off h) (none : HIx 1) unitsOut rfl (View.dmaCredit_pos _ (by decide)) (winO_set i t r ht hr off h e)) $$ [Hout Hm' Hv]
  · isplitl [Hm']; · iexact Hm'
    isplitl [Hout]; · iexact Hout
    iexact Hv
  iintro HF
  iapply Hk
  unfold outFl written
  iapply (Flight_mono EC (thr d i) ?_) $$ HF
  iintro ⟨Hout, Hm⟩
  isplitl [Hout]
  · iexists _
    isplitr
    swap
    · iexact Hout
    ipureintro
    intro x hx hxt
    by_cases hx' : tripOf x = t
    · obtain ⟨j, hj⟩ := exists_placeO i t r x hx hx'
      have hemb := winO_emb i _ (by omega) off h e j
      rw [← hj, ← hemb, View.write_emb_of_mem _ _ (Finset.mem_univ _)]
      refine Eq.trans (hfo j) ?_
      rw [hemb]
    · rw [View.write_of_not_mem]
      · exact hf x hx (by omega)
      · intro hmem
        obtain ⟨j, -, rfl⟩ := Finset.mem_map.mp hmem
        rw [winO_emb i _ (by omega) off h e j] at hx'
        exact hx' (placeO_piece i t r ht hr j).2
  · iexists fo
    iapply (Entails.of_eq (show (m.view.loc (thr d i) ↦[m.view.set]{fullShare} fo : sProp (MM F)) = (m.view.loc (thr d i) ↦{fullShare} fo) by rw [hset]))
    iexact Hm

end Out

/-! ## One trip of a slot -/

section Trip
variable (a6 : Memref sig .scVector .vmem S100000 .f32) (mD mI : Memref sig .scVector .vmem S2x3x8x128 .f32) (mO : Memref sig .scVector .vmem S2x3x128 .f32)
  (sD sI sO : DmaSem sig) (qD qI : PosShare TreeShare) (v61 : FVec F S16 .f32) (tab : S400000.Idx → F .f32) (P : S4x2x384x3x8x128.Idx → F .f32) (r : ℕ)
  (O : CellTallies nD τ sig (HIx 1)) (W : Waits sig (HIx 1)) (fc : Buf (Elt F) (a6.view.loc (thr d i)))

/-- What a slot holds before trip `t`. -/
def slotSt (t : ℕ) : sProp (MM F) :=
  iprop(inSt d i mD sD qD P r 0 t ∗ inSt d i mI sI qI P r 1 t ∗ outSt d i mO sO v61 tab P r t)

/-- A trip of a slot takes it from its state before to its state after, beside the column, given that the loop over the block's
    groups leaves the block's results. -/
theorem wp_trip (hO : mO.IsWhole) (hcol : colOf d i a6 fc = colAt tab i)
    (hP : ∀ x, (x 1).val = 1 → (FloatOps.fptosi 32 (P x) : BitVec 32).toNat < 100000) (hr : r < 2) {t : ℕ} (ht : t < 48)
    {c1 c2 : BitVec 1} (hc1 : c1 = 1#1 ↔ ¬ t = 0) (hc2 : c2 = 1#1 ↔ t + 1 < 48)
    {loop : Prog (TpuEff nD τ sig (Elt F) Λ₀ (thr d i).2) Unit}
    (hloop : ∀ fd fi, InRange (mI.view.read (Elt F) fi) →
      blkInv d i a6 mD mI mO v61 fc fd fi 0 ⊢ wp (M := MM F) frame (wpE (defs₀ (F := F)) 𝒱₀ (thr d i) none) Set.univ loop
        fun _ => blkInv d i a6 mD mI mO v61 fc fd fi 48)
    {s₁ s₂ : Shape} {e₁ e₂ : EltTy} {p₁ p₂ : Space} {src₁ : Memref sig .scVector p₁ s₁ e₁} {src₂ : Memref sig .scVector p₂ s₂ e₂}
    {x₁ : src₁.view.WordExact} {x₂ : src₂.view.WordExact} {y₁ : mD.view.WordExact} {y₂ : mI.view.WordExact} {z z' : mO.view.WordExact}
    {offW : Fin 5 → ℕ} {hW : c1 = 1#1 → ∀ a, offW a + S1x2x3x1x128.size a ≤ S4x384x3x4x128.size a} {w₁ : ∀ h, (winO offW (hW h)).view.WordExact}
    {offOut : Fin 5 → ℕ} {hOut : ∀ a, offOut a + S1x2x3x1x128.size a ≤ S4x384x3x4x128.size a} (eO : offOut = offO i (2 * (2 * t + r)))
    {w₂ : (winO offOut hOut).view.WordExact} {w₃ : DmaTarget.Typed (nD := nD) (p := (thr d i).2) .vmem (SemLoc.dma sO) (.here (winO offOut hOut))}
    {offD offI : Fin 6 → ℕ} {hD : c2 = 1#1 → ∀ a, offD a + S1x1x2x3x8x128.size a ≤ S4x2x384x3x8x128.size a}
    {hI : c2 = 1#1 → ∀ a, offI a + S1x1x2x3x8x128.size a ≤ S4x2x384x3x8x128.size a}
    (eD : offD = offP i 0 (2 * (2 * (t + 1) + r))) (eI : offI = offP i 1 (2 * (2 * (t + 1) + r)))
    {v₁ : ∀ h, (winP offD (hD h)).view.WordExact} {v₂ : c2 = 1#1 → mD.view.WordExact}
    {v₃ : c2 = 1#1 → DmaTarget.Typed (nD := nD) (p := (thr d i).2) .hbm (SemLoc.dma sD) (.here mD)}
    {v₄ : ∀ h, (winP offI (hI h)).view.WordExact} {v₅ : c2 = 1#1 → mI.view.WordExact}
    {v₆ : c2 = 1#1 → DmaTarget.Typed (nD := nD) (p := (thr d i).2) .hbm (SemLoc.dma sI) (.here mI)}
    {α : Type} {rest : Prog (TpuEff nD τ sig (Elt F) Λ₀ (thr d i).2) α} {Q : α → sProp (MM F)} :
    iprop(slotSt d i mD mI mO sD sI sO qD qI v61 tab P r t ∗ (a6.view.loc (thr d i) ↦{fullShare} fc) ∗ owing d i O W ∗ MayWaits (thr d i) (none : HIx 1) O)
      ⊢ iprop(((slotSt d i mD mI mO sD sI sO qD qI v61 tab P r (t + 1) ∗ (a6.view.loc (thr d i) ↦{fullShare} fc) ∗ owing d i O W)
            -∗ wp (M := MM F) frame (wpE (defs₀ (F := F)) 𝒱₀ (thr d i) none) Set.univ rest Q)
          -∗ wp (M := MM F) frame (wpE (defs₀ (F := F)) 𝒱₀ (thr d i) none) Set.univ
              (.op (.waitDma2 sD src₁ mD x₁ y₁) fun _ => .op (.waitDma2 sI src₂ mI x₂ y₂) fun _ =>
                if h : c1 = 1#1 then
                  .op (.waitDma2 sO mO (winO offW (hW h)) z (w₁ h)) fun _ => loop >>= fun _ =>
                    .op (.enqueueDma mO (.here (winO offOut hOut)) (SemLoc.dma sO) z' w₂ w₃) fun _ =>
                      if h : c2 = 1#1 then
                        .op (.enqueueDma (winP offD (hD h)) (.here mD) (SemLoc.dma sD) (v₁ h) (v₂ h) (v₃ h)) fun _ =>
                          .op (.enqueueDma (winP offI (hI h)) (.here mI) (SemLoc.dma sI) (v₄ h) (v₅ h) (v₆ h)) fun _ => rest
                      else rest
                else
                  loop >>= fun _ =>
                    .op (.enqueueDma mO (.here (winO offOut hOut)) (SemLoc.dma sO) z' w₂ w₃) fun _ =>
                      if h : c2 = 1#1 then
                        .op (.enqueueDma (winP offD (hD h)) (.here mD) (SemLoc.dma sD) (v₁ h) (v₂ h) (v₃ h)) fun _ =>
                          .op (.enqueueDma (winP offI (hI h)) (.here mI) (SemLoc.dma sI) (v₄ h) (v₅ h) (v₆ h)) fun _ => rest
                      else rest) Q) := by
  -- what is left to do once the results' buffer is free
  have tail : ∀ fd fi, mD.view.read (Elt F) fd = (fun y => P (placeP i 0 (2 * t + r) y)) → mI.view.read (Elt F) fi = (fun y => P (placeP i 1 (2 * t + r) y)) →
      iprop((mD.view.loc (thr d i) ↦{fullShare} fd) ∗ (mPairs.view.loc (thr d i) ↦{qD} P) ∗ semVal (thr d i, SemLoc.dma sD) 0
          ∗ (mI.view.loc (thr d i) ↦{fullShare} fi) ∗ (mPairs.view.loc (thr d i) ↦{qI} P) ∗ semVal (thr d i, SemLoc.dma sI) 0
          ∗ outIdle d i mO sO v61 tab P r t ∗ (a6.view.loc (thr d i) ↦{fullShare} fc) ∗ owing d i O W)
        ⊢ iprop(((slotSt d i mD mI mO sD sI sO qD qI v61 tab P r (t + 1) ∗ (a6.view.loc (thr d i) ↦{fullShare} fc) ∗ owing d i O W)
            -∗ wp (M := MM F) frame (wpE (defs₀ (F := F)) 𝒱₀ (thr d i) none) Set.univ rest Q)
          -∗ wp (M := MM F) frame (wpE (defs₀ (F := F)) 𝒱₀ (thr d i) none) Set.univ
              (loop >>= fun _ =>
                    .op (.enqueueDma mO (.here (winO offOut hOut)) (SemLoc.dma sO) z' w₂ w₃) fun _ =>
                      if h : c2 = 1#1 then
                        .op (.enqueueDma (winP offD (hD h)) (.here mD) (SemLoc.dma sD) (v₁ h) (v₂ h) (v₃ h)) fun _ =>
                          .op (.enqueueDma (winP offI (hI h)) (.here mI) (SemLoc.dma sI) (v₄ h) (v₅ h) (v₆ h)) fun _ => rest
                      else rest) Q) := by
    intro fd fi hfd hfi
    unfold outIdle
    iintro ⟨Hd, HPd, Hvd, Hi, HPi, Hvi, ⟨⟨Hw, %fo, Ho⟩, Hvo⟩, Hc, HO⟩ Hk
    rw [wp_bind]
    iapply (wp_wand_r frame (wpE (defs₀ (F := F)) 𝒱₀ (thr d i) none) Set.univ)
    isplitl [Hd Hi Ho Hc]
    · iapply (hloop fd fi (by intro j; rw [hfi]; exact hP _ rfl))
      unfold blkInv
      isplitl [Hc]; · iexact Hc
      isplitl [Hd]; · iexact Hd
      isplitl [Hi]; · iexact Hi
      iexists fo
      isplitr
      · ipureintro; intro j hj; exact absurd hj (Nat.not_lt_zero _)
      · iexact Ho
    unfold blkInv
    iintro %_ ⟨Hc, Hd, Hi, %fo', %hfo, Ho⟩
    iapply (wp_flush d i mO sO v61 tab P r ht hr hO (fo := fo') (by
      intro j; rw [hfo j (grpOf_lt j), hfd, hfi, hcol]; exact blk_out v61 tab P i _ j) eO) $$ [Hw Ho Hvo]
    · isplitl [Hw]; · iexact Hw
      isplitl [Ho] <;> iassumption
    iintro HF
    have ho := outSt_pos d i mO sO v61 tab P r (Nat.succ_ne_zero t)
    by_cases h2 : c2 = 1#1
    · rw [dif_pos h2]
      have hlt := hc2.mp h2
      iapply (wp_fetch d i mD sD qD P (ch := 0) (n := 2 * (t + 1) + r) (by omega) eD) $$ [Hd HPd Hvd]
      · unfold inIdle
        isplitl [Hd]; · iexists _; iexact Hd
        isplitl [HPd] <;> iassumption
      iintro HFd
      iapply (wp_fetch d i mI sI qI P (ch := 1) (n := 2 * (t + 1) + r) (by omega) eI) $$ [Hi HPi Hvi]
      · unfold inIdle
        isplitl [Hi]; · iexists _; iexact Hi
        isplitl [HPi] <;> iassumption
      iintro HFi
      iapply Hk
      unfold slotSt
      rw [inSt_lt d i _ _ _ _ hlt, inSt_lt d i _ _ _ _ hlt, ho]
      isplitl [HF HFd HFi]
      · isplitl [HFd]; · iexact HFd
        isplitl [HFi] <;> iassumption
      isplitl [Hc] <;> iassumption
    · rw [dif_neg h2]
      have hlt : ¬ t + 1 < 48 := fun h => h2 (hc2.mpr h)
      iapply Hk
      unfold slotSt
      rw [inSt_end d i _ _ _ _ hlt, inSt_end d i _ _ _ _ hlt, ho]
      unfold inIdle
      isplitl [HF Hd HPd Hvd Hi HPi Hvi]
      · isplitl [Hd HPd Hvd]
        · isplitl [Hd]; · iexists _; iexact Hd
          isplitl [HPd] <;> iassumption
        isplitl [Hi HPi Hvi]
        · isplitl [Hi]; · iexists _; iexact Hi
          isplitl [HPi] <;> iassumption
        iexact HF
      isplitl [Hc] <;> iassumption
  rw [show slotSt d i mD mI mO sD sI sO qD qI v61 tab P r t = iprop(inFl d i mD sD qD P 0 (2 * t + r) ∗ inFl d i mI sI qI P 1 (2 * t + r)
      ∗ outSt d i mO sO v61 tab P r t) by unfold slotSt; rw [inSt_lt d i _ _ _ _ ht, inSt_lt d i _ _ _ _ ht]]
  iintro ⟨⟨HFd, HFi, Hos⟩, Hc, HO, #Hmw⟩ Hk
  iapply (wp_arrive d i mD sD qD P) $$ [HFd HO]
  · isplitl [HFd]; · iexact HFd
    isplitl [HO]; · iexact HO
    iexact Hmw
  unfold landed
  iintro ⟨⟨⟨%fd, %hfd, Hd⟩, HPd⟩, Hvd, HO⟩
  iapply (wp_arrive d i mI sI qI P) $$ [HFi HO]
  · isplitl [HFi]; · iexact HFi
    isplitl [HO]; · iexact HO
    iexact Hmw
  unfold landed
  iintro ⟨⟨⟨%fi, %hfi, Hi⟩, HPi⟩, Hvi, HO⟩
  by_cases h1 : c1 = 1#1
  · rw [dif_pos h1]
    ihave Hos' := (Entails.of_eq (outSt_pos d i mO sO v61 tab P r (hc1.mp h1))) $$ Hos
    iapply (wp_depart d i mO sO v61 tab P r) $$ [Hos' HO]
    · isplitl [Hos']; · iexact Hos'
      isplitl [HO]; · iexact HO
      iexact Hmw
    iintro ⟨Hos, HO⟩
    iapply (tail fd fi hfd hfi) $$ [Hd HPd Hvd Hi HPi Hvi Hos Hc HO]
    · isplitl [Hd]; · iexact Hd
      isplitl [HPd]; · iexact HPd
      isplitl [Hvd]; · iexact Hvd
      isplitl [Hi]; · iexact Hi
      isplitl [HPi]; · iexact HPi
      isplitl [Hvi]; · iexact Hvi
      isplitl [Hos]; · iexact Hos
      isplitl [Hc] <;> iassumption
    iexact Hk
  · rw [dif_neg h1]
    have he : t = 0 := by by_contra h; exact h1 (hc1.mpr h)
    ihave Hos' := (Entails.of_eq (outSt_zero d i mO sO v61 tab P r he)) $$ Hos
    iapply (tail fd fi hfd hfi) $$ [Hd HPd Hvd Hi HPi Hvi Hos' Hc HO]
    · isplitl [Hd]; · iexact Hd
      isplitl [HPd]; · iexact HPd
      isplitl [Hvd]; · iexact Hvd
      isplitl [Hi]; · iexact Hi
      isplitl [HPi]; · iexact HPi
      isplitl [Hvi]; · iexact Hvi
      isplitl [Hos']; · iexact Hos'
      isplitl [Hc] <;> iassumption
    iexact Hk

end Trip

end Cert.Proof.K
-- ==== Proof.Outer.lean ====
/-
  The loop over blocks: a trip runs the two slots one after the other.
-/
module

public import proofs.«01_k».proof.Proof.Slot

@[expose] public section

set_option maxRecDepth 65536

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono MayWaits)

variable {F : FTy → Type} [FloatOps F]

/-- What follows a branch follows each of its arms. -/
theorem dite_bind {Ef : Type → Type} {α β : Type} {c : Prop} [Decidable c] (t : c → Prog Ef α) (e : ¬ c → Prog Ef α) (k : α → Prog Ef β) :
    ((if h : c then t h else e h) >>= k) = if h : c then t h >>= k else e h >>= k := by
  split <;> rfl

variable (d : Dev nD) (i : grid0.Coords)
variable (q0 q1 q2 q3 : PosShare TreeShare) (v61 : FVec F S16 .f32) (tab : S400000.Idx → F .f32) (P : S4x2x384x3x8x128.Idx → F .f32)
  (O : CellTallies nD τ sig (HIx 1)) (W : Waits sig (HIx 1)) (fc : Buf (Elt F) (mCol.view.loc (thr d i)))

/-- Slot 0 before trip `t`. -/
abbrev st0 (t : ℕ) : sProp (MM F) := slotSt d i mD0 mI0 mO0 cc0_scratch8.sem cc0_scratch10.sem cc0_scratch12.sem q0 q1 v61 tab P 0 t
/-- Slot 1 before trip `t`. -/
abbrev st1 (t : ℕ) : sProp (MM F) := slotSt d i mD1 mI1 mO1 cc0_scratch9.sem cc0_scratch11.sem cc0_scratch13.sem q2 q3 v61 tab P 1 t

/-- What the subcore holds before trip `t` of the loop over blocks. -/
def outer (t : ℕ) : sProp (MM F) :=
  iprop(st0 d i q0 q1 v61 tab P t ∗ st1 d i q2 q3 v61 tab P t ∗ (mCol.view.loc (thr d i) ↦{fullShare} fc) ∗ owing d i O W)

/-- The loop over a block's groups in slot 0 leaves the block's results. -/
theorem loop0 (v56 c0 c1 : BitVec 32) (t : Fin k0_t1_loop.trips) (fd : Buf (Elt F) (mD0.view.loc (thr d i))) (fi : Buf (Elt F) (mI0.view.loc (thr d i)))
    (hI : InRange (mI0.view.read (Elt F) fi)) :
    blkInv d i mCol mD0 mI0 mO0 v61 fc fd fi 0 ⊢ wp (M := MM F) frame (wpE (defs₀ (F := F)) 𝒱₀ (thr d i) none) Set.univ
      (Scf.Loop.for k0_t2_loop k0_t2_ok ⟨⟩ (k0_t2_body i mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1 v56 v61 k0_pay46 c0 c1 t))
      fun _ => blkInv d i mCol mD0 mI0 mO0 v61 fc fd fi 48 := by
  refine BIBase.Entails.trans ?_ (Scf.wp_for frame (wpE (defs₀ (F := F)) 𝒱₀ (thr d i) none) Set.univ _ _ _ k0_t2_ok ⟨⟩ _
    (fun n _ => blkInv d i mCol mD0 mI0 mO0 v61 fc fd fi n) fun t' u => blk_step d i mCol mD0 mI0 mO0 v61 fc fd fi _ _ _ _ _ _ _ _ _ _ _ _ _ _ _ _ _ _ _ _ _ _ _ _ _ _ _ _ _ _ _ _ hI t' u)
  iintro H
  isplitl [H]; · iexact H
  iintro %_ H
  ihave H' := (Entails.of_eq (congrArg (blkInv d i mCol mD0 mI0 mO0 v61 fc fd fi) trips2)) $$ H
  iexact H'

/-- The loop over a block's groups in slot 1 is slot 0's, over slot 1's buffers. -/
theorem loop1 (v56 x0 x1 x2 : BitVec 32) (t : Fin k0_t1_loop.trips) (fd : Buf (Elt F) (mD1.view.loc (thr d i))) (fi : Buf (Elt F) (mI1.view.loc (thr d i)))
    (hI : InRange (mI1.view.read (Elt F) fi)) :
    blkInv d i mCol mD1 mI1 mO1 v61 fc fd fi 0 ⊢ wp (M := MM F) frame (wpE (defs₀ (F := F)) 𝒱₀ (thr d i) none) Set.univ
      (Scf.Loop.for k0_t3_loop k0_t3_ok ⟨⟩ (k0_t3_body i mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1 v56 v61 k0_pay46 t x0 x1 x2))
      fun _ => blkInv d i mCol mD1 mI1 mO1 v61 fc fd fi 48 := by
  rw [t3_eq_t2 (c0 := 0) (c1 := 0)]
  refine BIBase.Entails.trans ?_ (Scf.wp_for frame (wpE (defs₀ (F := F)) 𝒱₀ (thr d i) none) Set.univ _ _ _ k0_t3_ok ⟨⟩ _
    (fun n _ => blkInv d i mCol mD1 mI1 mO1 v61 fc fd fi n) fun t' u => blk_step d i mCol mD1 mI1 mO1 v61 fc fd fi _ _ _ _ _ _ _ _ _ _ _ _ _ _ _ _ _ _ _ _ _ _ _ _ _ _ _ _ _ _ _ _ hI t' u)
  iintro H
  isplitl [H]; · iexact H
  iintro %_ H
  ihave H' := (Entails.of_eq (congrArg (blkInv d i mCol mD1 mI1 mO1 v61 fc fd fi) trips3)) $$ H
  iexact H'

/-- A trip takes it from its state before to its state after. -/
theorem outer_step (hcol : colOf d i mCol fc = colAt tab i) (hP : ∀ x, (x 1).val = 1 → (FloatOps.fptosi 32 (P x) : BitVec 32).toNat < 100000)
    (v56 c0 : BitVec 32) (t : Fin k0_t1_loop.trips) (u : Unit) :
    iprop(outer d i q0 q1 q2 q3 v61 tab P O W fc t.val ∗ MayWaits (thr d i) (none : HIx 1) O)
      ⊢ wp (M := MM F) frame (wpE (defs₀ (F := F)) 𝒱₀ (thr d i) none) Set.univ
          (k0_t1_body i mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1 v56 v61 k0_pay46 c0 t u)
          fun _ => outer d i q0 q1 q2 q3 v61 tab P O W fc (t.val + 1) := by
  have ht : t.val < 48 := trips1 ▸ t.isLt
  unfold k0_t1_body
  simp only [k0_part7_eq_skeleton, k0_part8_eq_skeleton]
  unfold k0_part7_skel k0_part8_skel
  simp only [Prog.lift, Prog.bind_op, Prog.bind_ret, Prog.pure_eq_ret, Prog.bind_assoc, dite_bind]
  unfold outer
  iintro ⟨⟨H0, H1, Hc, HO⟩, #Hmw⟩
  iapply (wp_trip d i mCol mD0 mI0 mO0 cc0_scratch8.sem cc0_scratch10.sem cc0_scratch12.sem q0 q1 v61 tab P 0 O W fc (Memref.isWhole_whole _) hcol hP
    (by decide) ht (cond1_iff t) (cond2_iff t) (loop0 d i v61 fc v56 _ _ t) (off16_eq i t 0) (off17_eq i t) (off18_eq i t)) $$ [H0 Hc HO]
  · isplitl [H0]; · iexact H0
    isplitl [Hc]; · iexact Hc
    isplitl [HO]; · iexact HO
    iexact Hmw
  iintro ⟨H0, Hc, HO⟩
  iapply (wp_trip d i mCol mD1 mI1 mO1 cc0_scratch9.sem cc0_scratch11.sem cc0_scratch13.sem q2 q3 v61 tab P 1 O W fc (Memref.isWhole_whole _) hcol hP
    (by decide) ht (cond3_iff t) (cond4_iff t) (loop1 d i v61 fc v56 _ _ _ t) (off16_eq i t 1) (off29_eq i t) (off30_eq i t)) $$ [H1 Hc HO]
  · isplitl [H1]; · iexact H1
    isplitl [Hc]; · iexact Hc
    isplitl [HO]; · iexact HO
    iexact Hmw
  iintro ⟨H1, Hc, HO⟩
  rw [wp_ret]
  imodintro
  isplitl [H0]; · iexact H0
  isplitl [H1]; · iexact H1
  isplitl [Hc] <;> iassumption

/-- A trip also keeps the leave to wait. -/
theorem outer_keep (hcol : colOf d i mCol fc = colAt tab i) (hP : ∀ x, (x 1).val = 1 → (FloatOps.fptosi 32 (P x) : BitVec 32).toNat < 100000)
    (v56 c0 : BitVec 32) (t : Fin k0_t1_loop.trips) (u : Unit) :
    iprop(outer d i q0 q1 q2 q3 v61 tab P O W fc t.val ∗ MayWaits (thr d i) (none : HIx 1) O)
      ⊢ wp (M := MM F) frame (wpE (defs₀ (F := F)) 𝒱₀ (thr d i) none) Set.univ
          (k0_t1_body i mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1 v56 v61 k0_pay46 c0 t u)
          fun _ => iprop(outer d i q0 q1 q2 q3 v61 tab P O W fc (t.val + 1) ∗ MayWaits (thr d i) (none : HIx 1) O) := by
  iintro ⟨H, #Hmw⟩
  iapply (wp_wand_r frame (wpE (defs₀ (F := F)) 𝒱₀ (thr d i) none) Set.univ)
  isplitl
  · iapply (outer_step d i q0 q1 q2 q3 v61 tab P O W fc hcol hP v56 c0 t u)
    isplitl [H]; · iexact H
    iexact Hmw
  iintro %_ H
  isplitl [H]; · iexact H
  iexact Hmw

/-- After the last trip only the last results are in flight. -/
theorem outer_end :
    outer d i q0 q1 q2 q3 v61 tab P O W fc 48
      ⊢ iprop(inIdle d i mD0 cc0_scratch8.sem q0 P ∗ inIdle d i mI0 cc0_scratch10.sem q1 P ∗ outFl d i mO0 cc0_scratch12.sem v61 tab P 0 48
          ∗ inIdle d i mD1 cc0_scratch9.sem q2 P ∗ inIdle d i mI1 cc0_scratch11.sem q3 P ∗ outFl d i mO1 cc0_scratch13.sem v61 tab P 1 48
          ∗ (mCol.view.loc (thr d i) ↦{fullShare} fc) ∗ owing d i O W) := by
  have h : ¬ 48 < 48 := by decide
  have h' : ¬ 48 = 0 := by decide
  unfold outer st0 st1 slotSt
  rw [inSt_end d i _ _ _ _ h, inSt_end d i _ _ _ _ h, inSt_end d i _ _ _ _ h, inSt_end d i _ _ _ _ h, outSt_pos d i _ _ _ _ _ _ h', outSt_pos d i _ _ _ _ _ _ h']
  iintro ⟨⟨Hd0, Hi0, Ho0⟩, ⟨Hd1, Hi1, Ho1⟩, Hc, HO⟩
  isplitl [Hd0]; · iexact Hd0
  isplitl [Hi0]; · iexact Hi0
  isplitl [Ho0]; · iexact Ho0
  isplitl [Hd1]; · iexact Hd1
  isplitl [Hi1]; · iexact Hi1
  isplitl [Ho1]; · iexact Ho1
  isplitl [Hc] <;> iassumption

end Cert.Proof.K
-- ==== Proof.Tile.lean ====
/-
  A subcore's whole task: the channel's column and the scale brought in, the first blocks' copies started, the loop over
  blocks, the last results' copies waited for.
-/
module

public import proofs.«01_k».proof.Proof.Outer

@[expose] public section

set_option maxRecDepth 65536

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono MayWaits)

variable {F : FTy → Type} [FloatOps F]

variable (d : Dev nD) (i : grid0.Coords)

/-- The window of the table for the subcore's channel. -/
abbrev winT (h : ∀ a, k0_off1 i a + S100000.size a ≤ S400000.size a) : Memref sig .scVector .hbm S100000 .f32 :=
  mTab.slice (Rect.unit (k0_off1 i) S100000.size h) (fun _ => rfl)

/-- What the window reads is the channel's column. -/
theorem winT_read (h : ∀ a, k0_off1 i a + S100000.size a ≤ S400000.size a) (tab : S400000.Idx → F .f32) (f : Buf (Elt F) (mCol.view.loc (thr d i))) :
    colOf d i mCol (mCol.view.write (Elt F) f ((winT i h).view.read (Elt F) tab) Finset.univ) = colAt tab i := by
  have e : ∀ x : S100000.Idx, (Rect.whole S100000).emb x = x := fun x => by
    funext a; apply Fin.ext
    show 0 + 1 * (x a).val = (x a).val; omega
  funext r
  refine Eq.trans (b := mCol.view.read (Elt F) (mCol.view.write (Elt F) f ((winT i h).view.read (Elt F) tab) Finset.univ) ((Rect.whole S100000).emb r)) rfl ?_
  rw [View.read_write_univ, e]
  show tab ((Rect.unit (s := S400000) (k0_off1 i) S100000.size h).emb r) = _
  unfold colAt
  congr 1
  funext a; apply Fin.ext
  match a with
  | 0 => show k0_off1 i 0 + 1 * (r 0).val = _; rw [off1_eq]; show chn i * 100000 + 1 * _ = chn i * 100000 + _; omega

/-- What is loaded of the scale is the scale. -/
theorem scale_load (cv : S16.Idx → F .f32) (f : Buf (Elt F) (mCv.view.loc (thr d i))) :
    mCv.view.readAt (Elt F) (Rect.unit ![0] S16.size inb_S16_S16_0).toLoadRect (mCv.view.write (Elt F) f (mC.view.read (Elt F) cv) Finset.univ) = cv := by
  have e : ∀ x : S16.Idx, (Rect.unit (s := S16) ![0] S16.size inb_S16_S16_0).emb x = x := fun x => by
    funext a; apply Fin.ext
    match a with
    | 0 => show 0 + 1 * (x 0).val = (x 0).val; omega
  funext x
  refine Eq.trans (b := mCv.view.read (Elt F) (mCv.view.write (Elt F) f (mC.view.read (Elt F) cv) Finset.univ) ((Rect.unit (s := S16) ![0] S16.size inb_S16_S16_0).emb x)) rfl ?_
  rw [View.read_write_univ, e]
  rfl

variable (qt qc q0 q1 q2 q3 : PosShare TreeShare) (tab : S400000.Idx → F .f32) (P : S4x2x384x3x8x128.Idx → F .f32) (cv : S16.Idx → F .f32)
  (O : CellTallies nD τ sig (HIx 1)) (W : Waits sig (HIx 1))

/-- What a subcore reads: the table, the pairs at four shares, the scale. -/
def reads : sProp (MM F) :=
  iprop((mTab.view.loc (thr d i) ↦{qt} tab) ∗ (mC.view.loc (thr d i) ↦{qc} cv)
    ∗ (mPairs.view.loc (thr d i) ↦{q0} P) ∗ (mPairs.view.loc (thr d i) ↦{q1} P) ∗ (mPairs.view.loc (thr d i) ↦{q2} P) ∗ (mPairs.view.loc (thr d i) ↦{q3} P))

/-- The subcore's two pieces of the result, holding `f`. -/
def pieces (f : S4x384x3x4x128.Idx → F .f32) : sProp (MM F) :=
  iprop((mOut.view.loc (thr d i) ↦[piece (wid i) 0]{fullShare} f) ∗ (mOut.view.loc (thr d i) ↦[piece (wid i) 1]{fullShare} f))

/-- The subcore's scratches, holding anything. -/
def bufs : sProp (MM F) :=
  iprop((∃ f, mCol.view.loc (thr d i) ↦{fullShare} f) ∗ (∃ f, mD0.view.loc (thr d i) ↦{fullShare} f) ∗ (∃ f, mD1.view.loc (thr d i) ↦{fullShare} f)
    ∗ (∃ f, mI0.view.loc (thr d i) ↦{fullShare} f) ∗ (∃ f, mI1.view.loc (thr d i) ↦{fullShare} f)
    ∗ (∃ f, mO0.view.loc (thr d i) ↦{fullShare} f) ∗ (∃ f, mO1.view.loc (thr d i) ↦{fullShare} f) ∗ (∃ f, mCv.view.loc (thr d i) ↦{fullShare} f))

/-- The subcore's semaphores at zero. -/
def sems : sProp (MM F) :=
  iprop(semVal (thr d i, SemLoc.dma cc0_scratch8.sem) 0 ∗ semVal (thr d i, SemLoc.dma cc0_scratch9.sem) 0 ∗ semVal (thr d i, SemLoc.dma cc0_scratch10.sem) 0
    ∗ semVal (thr d i, SemLoc.dma cc0_scratch11.sem) 0 ∗ semVal (thr d i, SemLoc.dma cc0_scratch12.sem) 0 ∗ semVal (thr d i, SemLoc.dma cc0_scratch13.sem) 0
    ∗ semVal (thr d i, SemLoc.dma cc0_scoped0.sem) 0 ∗ semVal (thr d i, SemLoc.dma cc0_scoped1.sem) 0)

/-- A wait for a transfer the subcore started keeps what it owes. -/
theorem wp_await {sem : DmaSem sig} {N : ℕ} {X : sProp (MM F)} {s s' : Shape} {e e' : EltTy} {sp sp' : Space}
    {srcw : Memref sig .scVector sp' s' e'} {dstw : Memref sig .scVector sp s e} {hs : srcw.view.WordExact} {hd : dstw.view.WordExact} (hN : dstw.view.dmaCredit = N)
    {α : Type} {k : PUnit → Prog (TpuEff nD τ sig (Elt F) Λ₀ (thr d i).2) α} {Q : α → sProp (MM F)} :
    iprop(Flight EC (thr d i) (.dma sem) (none : HIx 1) N X ∗ owing d i O W ∗ MayWaits (thr d i) (none : HIx 1) O)
      ⊢ iprop(((X ∗ semVal (thr d i, SemLoc.dma sem) 0 ∗ owing d i O W)
            -∗ wp (M := MM F) frame (wpE (defs₀ (F := F)) 𝒱₀ (thr d i) none) Set.univ (k ⟨⟩) Q)
          -∗ wp (M := MM F) frame (wpE (defs₀ (F := F)) 𝒱₀ (thr d i) none) Set.univ (.op (.waitDma2 sem srcw dstw hs hd) k) Q) := by
  unfold owing
  iintro ⟨HF, ⟨%W', %hW, HO⟩, Hmw⟩ Hk
  ihave Hmw' := (MayWaits.elim (SemLoc.dma sem)) $$ Hmw
  iapply (Transfers.wp_waitLocalO EC 𝒱₀ (thr d i) none (none : HIx 1) hN) $$ [HF HO Hmw']
  · isplitl [HF]; · iexact HF
    isplitl [HO] <;> iassumption
  iintro ⟨HD, Hv, HO⟩
  iapply Hk
  isplitl [HD]; · iexact HD
  isplitl [Hv]; · iexact Hv
  iexists _
  isplitr
  swap
  · iexact HO
  ipureintro
  intro p hp
  rcases Finset.mem_insert.mp hp with hp | hp
  · exact .inr (hp ▸ rfl)
  · exact hW p hp

/-- Once every trip is done the piece holds the result. -/
theorem written_end (v61 : FVec F S16 .f32) (r : ℕ) :
    written d i v61 tab P r 48 ⊢ (mOut.view.loc (thr d i) ↦[piece (wid i) r]{fullShare} outAt v61 tab P : sProp (MM F)) := by
  unfold written
  iintro ⟨%f, %hf, H⟩
  iapply (Entails.of_eq (pointsTo_congr fun x hx => hf x hx (tripOf_lt x)))
  iexact H

/-- The task, from what it reads, its pieces, its scratches and its semaphores, leaves the pieces holding the result. -/
theorem tile_run (hP : ∀ x, (x 1).val = 1 → (FloatOps.fptosi 32 (P x) : BitVec 32).toNat < 100000) (f₀ : S4x384x3x4x128.Idx → F .f32) :
    iprop(MayWaits (thr d i) (none : HIx 1) O ∗ reads d i qt qc q0 q1 q2 q3 tab P cv ∗ pieces d i f₀ ∗ bufs d i ∗ sems d i ∗ owing d i O W)
      ⊢ wp (M := MM F) frame (wpE (defs₀ (F := F)) 𝒱₀ (thr d i) none) Set.univ
          (cc0_gauss_sc i mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1)
          fun _ => iprop(reads d i qt qc q0 q1 q2 q3 tab P cv ∗ pieces d i (outAt (k0_pay45 cv) tab P) ∗ bufs d i ∗ sems d i ∗ owing d i O W) := by
  simp only [cc0_gauss_sc_eq_skeleton]; unfold cc0_gauss_sc_skel
  simp only [k0_part9_eq_skeleton, k0_part10_eq_skeleton, k0_part11_eq_skeleton]
  unfold k0_part9_skel k0_part10_skel k0_part11_skel
  simp only [Prog.lift, Prog.bind_op, Prog.bind_ret, Prog.pure_eq_ret, Prog.bind_assoc]
  unfold reads pieces bufs sems
  iintro ⟨#Hmw, ⟨Ht, Hcv, HP0, HP1, HP2, HP3⟩, ⟨Hx0, Hx1⟩, ⟨⟨%f1, Hcol⟩, ⟨%f2, Hd0⟩, ⟨%f3, Hd1⟩, ⟨%f4, Hi0⟩, ⟨%f5, Hi1⟩, ⟨%f6, Ho0⟩, ⟨%f7, Ho1⟩, ⟨%f8, Hc⟩⟩,
    ⟨Hs8, Hs9, Hs10, Hs11, Hs12, Hs13, Hr0, Hr1⟩, HO⟩
  -- the column
  ihave Ht' := (pointsTo_split_subset (f := tab) (q := qt) (I := (winT i (k0_off1_inb i)).view.set) (S := Finset.univ) (ℓ := mTab.view.loc (thr d i)) (Finset.subset_univ _)).1 $$ Ht
  icases Ht' with ⟨Htw, Htr⟩
  iapply (Transfers.wp_dmaLocal EC 𝒱₀ (thr d i) none (src := winT i (k0_off1_inb i)) (dst := mCol) (none : HIx 1) mCol.view.dmaCredit rfl (View.dmaCredit_pos _ (by decide)) (Finset.subset_univ _)) $$ [Htw Hcol Hr0]
  · isplitl [Htw]; · iexact Htw
    isplitl [Hcol]; · iexact Hcol
    iexact Hr0
  iintro HF
  iapply (wp_await d i O W rfl) $$ [HF HO]
  · isplitl [HF]; · iexact HF
    isplitl [HO]; · iexact HO
    iexact Hmw
  iintro ⟨⟨Hcol, Htw⟩, Hr0, HO⟩
  have hcol := winT_read d i (k0_off1_inb i) tab f1
  -- the scale
  iapply (Transfers.wp_dmaLocal EC 𝒱₀ (thr d i) none (src := mC) (dst := mCv) (none : HIx 1) mCv.view.dmaCredit rfl (View.dmaCredit_pos _ (by decide)) (Finset.subset_univ _)) $$ [Hcv Hc Hr1]
  · isplitl [Hcv]; · iexact Hcv
    isplitl [Hc]; · iexact Hc
    iexact Hr1
  iintro HF
  iapply (wp_await d i O W rfl) $$ [HF HO]
  · isplitl [HF]; · iexact HF
    isplitl [HO]; · iexact HO
    iexact Hmw
  iintro ⟨⟨Hc, Hcv⟩, Hr1, HO⟩
  iapply (wp_load 𝒱₀ (thr d i) none Set.univ (m := mCv) (S := Finset.univ) (Finset.subset_univ _)) $$ Hc
  iintro Hc
  rw [scale_load]
  -- the first blocks
  iapply (wp_fetch d i mD0 cc0_scratch8.sem q0 P (ch := 0) (n := 0) (by decide) (off2_eq i 0)) $$ [Hd0 HP0 Hs8]
  · unfold inIdle
    isplitl [Hd0]; · iexists _; iexact Hd0
    isplitl [HP0] <;> iassumption
  iintro HF0
  iapply (wp_fetch d i mI0 cc0_scratch10.sem q1 P (ch := 1) (n := 0) (by decide) (off3_eq i 0)) $$ [Hi0 HP1 Hs10]
  · unfold inIdle
    isplitl [Hi0]; · iexists _; iexact Hi0
    isplitl [HP1] <;> iassumption
  iintro HF1
  iapply (wp_fetch d i mD1 cc0_scratch9.sem q2 P (ch := 0) (n := 1) (by decide) (off2_eq i 1)) $$ [Hd1 HP2 Hs9]
  · unfold inIdle
    isplitl [Hd1]; · iexists _; iexact Hd1
    isplitl [HP2] <;> iassumption
  iintro HF2
  iapply (wp_fetch d i mI1 cc0_scratch11.sem q3 P (ch := 1) (n := 1) (by decide) (off3_eq i 1)) $$ [Hi1 HP3 Hs11]
  · unfold inIdle
    isplitl [Hi1]; · iexists _; iexact Hi1
    isplitl [HP3] <;> iassumption
  iintro HF3
  -- the loop over blocks
  iapply (Scf.wp_for_bind frame (wpE (defs₀ (F := F)) 𝒱₀ (thr d i) none) Set.univ _ _ _ k0_t1_ok ⟨⟩ _
    (fun n _ => iprop(outer d i q0 q1 q2 q3 (k0_pay45 cv) tab P O W _ n ∗ MayWaits (thr d i) (none : HIx 1) O))
    (fun t u => (outer_keep d i q0 q1 q2 q3 (k0_pay45 cv) tab P O W _ hcol hP _ _ t u))) $$ [HF0 HF1 HF2 HF3 Hx0 Hx1 Ho0 Ho1 Hs12 Hs13 Hcol HO]
  · isplitl
    · unfold outer st0 st1 slotSt
      rw [inSt_lt d i _ _ _ _ (show 0 < 48 by decide), inSt_lt d i _ _ _ _ (show 0 < 48 by decide), inSt_lt d i _ _ _ _ (show 0 < 48 by decide),
        inSt_lt d i _ _ _ _ (show 0 < 48 by decide), outSt_zero d i _ _ _ _ _ _ rfl, outSt_zero d i _ _ _ _ _ _ rfl]
      unfold outIdle written
      isplitl [HF0 HF1 Hx0 Ho0 Hs12]
      · isplitl [HF0]; · iexact HF0
        isplitl [HF1]; · iexact HF1
        isplitr [Hs12]
        · isplitl [Hx0]
          · iexists f₀
            isplitr
            · ipureintro; intro x _ h; exact absurd h (Nat.not_lt_zero _)
            · iexact Hx0
          · iexists _; iexact Ho0
        · iexact Hs12
      isplitl [HF2 HF3 Hx1 Ho1 Hs13]
      · isplitl [HF2]; · iexact HF2
        isplitl [HF3]; · iexact HF3
        isplitr [Hs13]
        · isplitl [Hx1]
          · iexists f₀
            isplitr
            · ipureintro; intro x _ h; exact absurd h (Nat.not_lt_zero _)
            · iexact Hx1
          · iexists _; iexact Ho1
        · iexact Hs13
      isplitl [Hcol] <;> iassumption
    · iexact Hmw
  iintro %_ ⟨HI, -⟩
  ihave HI' := (Entails.of_eq (congrArg (outer d i q0 q1 q2 q3 (k0_pay45 cv) tab P O W _) trips1)) $$ HI
  ihave HI'' := (outer_end d i q0 q1 q2 q3 (k0_pay45 cv) tab P O W _) $$ HI'
  icases HI'' with ⟨Hd0, Hi0, Ho0, Hd1, Hi1, Ho1, Hcol, HO⟩
  -- the last results
  iapply (wp_depart d i mO0 cc0_scratch12.sem (k0_pay45 cv) tab P 0) $$ [Ho0 HO]
  · isplitl [Ho0]; · iexact Ho0
    isplitl [HO]; · iexact HO
    iexact Hmw
  iintro ⟨Ho0, HO⟩
  iapply (wp_depart d i mO1 cc0_scratch13.sem (k0_pay45 cv) tab P 1) $$ [Ho1 HO]
  · isplitl [Ho1]; · iexact Ho1
    isplitl [HO]; · iexact HO
    iexact Hmw
  iintro ⟨Ho1, HO⟩
  unfold inIdle outIdle
  icases Hd0 with ⟨Hd0, HP0, Hs8⟩
  icases Hi0 with ⟨Hi0, HP1, Hs10⟩
  icases Hd1 with ⟨Hd1, HP2, Hs9⟩
  icases Hi1 with ⟨Hi1, HP3, Hs11⟩
  icases Ho0 with ⟨⟨Hw0, Ho0⟩, Hs12⟩
  icases Ho1 with ⟨⟨Hw1, Ho1⟩, Hs13⟩
  rw [wp_ret]
  imodintro
  isplitl [Htw Htr Hcv HP0 HP1 HP2 HP3]
  · isplitl [Htw Htr]
    · iapply (pointsTo_split_subset (f := tab) (q := qt) (I := (winT i (k0_off1_inb i)).view.set) (S := Finset.univ) (ℓ := mTab.view.loc (thr d i)) (Finset.subset_univ _)).2
      isplitl [Htw] <;> iassumption
    isplitl [Hcv]; · iexact Hcv
    isplitl [HP0]; · iexact HP0
    isplitl [HP1]; · iexact HP1
    isplitl [HP2] <;> iassumption
  isplitl [Hw0 Hw1]
  · isplitl [Hw0]
    · iapply (written_end d i tab P (k0_pay45 cv) 0); iexact Hw0
    · iapply (written_end d i tab P (k0_pay45 cv) 1); iexact Hw1
  isplitl [Hcol Hd0 Hd1 Hi0 Hi1 Ho0 Ho1 Hc]
  · isplitl [Hcol]; · iexists _; iexact Hcol
    isplitl [Hd0]; · iexact Hd0
    isplitl [Hd1]; · iexact Hd1
    isplitl [Hi0]; · iexact Hi0
    isplitl [Hi1]; · iexact Hi1
    isplitl [Ho0]; · iexact Ho0
    isplitl [Ho1]; · iexact Ho1
    iexists _; iexact Hc
  isplitr [HO]
  · isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hr0] <;> iassumption
  · iexact HO

end Cert.Proof.K
-- ==== Proof.Launch.lean ====
/-
  The kernel's launch: each subcore's task over the memory and semaphores the launch hands it, the shares of the
  kernel's arrays it is handed, and how the arrays split into the shares.
-/
module

public import proofs.«01_k».proof.Proof.Tile

@[expose] public section

set_option maxRecDepth 65536

noncomputable section

namespace Cert.Proof.K

open Cert.KernelIdeal Cert.KernelIdeal.Gen

open Idealize.ShloMosaic
open Idealize.ShloMosaic.SparseCore (S V T)
open Idealize.ShloMosaic.SparseCore.Cfg (HIx Pay ownSems0 ownBufs ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono MayWaits shareTok shareDrop dealOf pointsTo_deal)
open Idealize.ShloMosaic.Rounds

/-! ## A subcore's own semaphores and scratches -/

/-- A separating conjunction over a set is that of some listed members, and of the rest. -/
theorem peel {I : Type} [DecidableEq I] {M : Type} [URA M] (Φ : I → sProp M) : ∀ (l : List I) (s : Finset I), l.Nodup → (∀ a ∈ l, a ∈ s) →
    bigSep s Φ = l.foldr (fun a R => iprop(Φ a ∗ R)) (bigSep (s \ l.toFinset) Φ)
  | [], s, _, _ => by simp
  | a :: l, s, hn, hs => by
    have hn' := List.nodup_cons.mp hn
    rw [SparseCore.bigSep_erase' (hs a (List.mem_cons_self ..)), List.foldr_cons,
      peel Φ l (s.erase a) hn'.2 (fun b hb => Finset.mem_erase.mpr ⟨fun e => hn'.1 (e ▸ hb), hs b (List.mem_cons_of_mem _ hb)⟩),
      show s.erase a \ l.toFinset = s \ (a :: l).toFinset from by ext x; simp; tauto]

theorem eq_of_equiv {M : Type} [URA M] {A B : sProp M} (h : A ⊣⊢ B) : A = B := BI.equiv_iff.mp ⟨h.1, h.2⟩

variable {F : FTy → Type}

variable (d : Dev nD) (i : grid0.Coords)

/-- The semaphores the kernel uses, -/
def semList : List (SemLoc sig) := [SemLoc.dma cc0_scratch8.sem, SemLoc.dma cc0_scratch9.sem, SemLoc.dma cc0_scratch10.sem, SemLoc.dma cc0_scratch11.sem,
  SemLoc.dma cc0_scratch12.sem, SemLoc.dma cc0_scratch13.sem, SemLoc.dma cc0_scoped0.sem, SemLoc.dma cc0_scoped1.sem]

/-- and its scratches. -/
def bufList : List (Ref sig .scVector) := [cc0_scratch0, cc0_scratch1, cc0_scratch2, cc0_scratch3, cc0_scratch4, cc0_scratch5, cc0_scratch6, cc0_scratch7]

/-- The semaphores of a subcore that the kernel does not use. -/
def restSems : sProp (MM F) :=
  bigSep (ownCells (thr d i) \ (semList.map fun s => ((thr d i, s) : GSem nD τ sig)).toFinset) fun g => semVal g 0

/-- A subcore's memory apart from its scratches. -/
def restBufs : sProp (MM F) :=
  bigSep (ownRefs (τ := τ) (thr d i).2 \ (bufList.map (thr d i).2.devRef).toFinset) fun b => iprop(∃ f, ((d, b) : Loc nD τ sig) ↦{fullShare} f)

/-- A subcore's semaphores are the kernel's eight and the rest; -/
theorem ownSems0_thr : (ownSems0 (thr d i) : sProp (MM F)) ⊣⊢ iprop(sems d i ∗ restSems d i) := by
  have h := peel (fun g => (semVal g 0 : sProp (MM F))) (semList.map fun s => ((thr d i, s) : GSem nD τ sig)) (ownCells (thr d i))
    (List.Nodup.map (fun a b e => (Prod.mk.inj e).2) (by decide))
    (by
      intro a ha
      obtain ⟨s, hs, rfl⟩ := List.mem_map.mp ha
      exact mem_ownCells.mpr ⟨rfl, (by decide : ∀ s ∈ semList, s.isScoped .scVector = true) s hs⟩)
  have e : (ownSems0 (thr d i) : sProp (MM F)) = _ := h
  rw [e]
  unfold sems restSems
  simp only [semList, List.map_cons, List.map_nil, List.foldr_cons, List.foldr_nil]
  constructor
  · iintro ⟨H0, H1, H2, H3, H4, H5, H6, H7, H⟩
    iframe
  · iintro ⟨⟨H0, H1, H2, H3, H4, H5, H6, H7⟩, H⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H

/-- and its memory is the kernel's eight scratches and the rest. -/
theorem ownBufs_thr : (ownBufs (thr d i) : sProp (MM F)) ⊣⊢ iprop(bufs d i ∗ restBufs d i) := by
  have h := peel (fun b => (iprop(∃ f, ((d, b) : Loc nD τ sig) ↦{fullShare} f) : sProp (MM F))) (bufList.map (thr d i).2.devRef) (ownRefs (τ := τ) (thr d i).2)
    (List.Nodup.map (Proc.devRef_injective _) (show (bufList : List (Ref sig .scVector)).Nodup by decide))
    (by
      intro a ha
      obtain ⟨s, hs, rfl⟩ := List.mem_map.mp ha
      refine mem_ownRefs_of_owner ?_
      simp only [bufList, List.mem_cons, List.not_mem_nil, _root_.or_false] at hs
      rcases hs with rfl | rfl | rfl | rfl | rfl | rfl | rfl | rfl <;> rfl)
  have e : (ownBufs (thr d i) : sProp (MM F)) = _ := h
  rw [e]
  unfold bufs restBufs
  simp only [bufList, List.map_cons, List.map_nil, List.foldr_cons, List.foldr_nil]
  constructor
  · iintro ⟨H0, H1, H2, H3, H4, H5, H6, H7, H⟩
    isplitr [H]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact H
  · iintro ⟨⟨H0, H1, H2, H3, H4, H5, H6, H7⟩, H⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H

/-! ## The shares of the arrays -/

/-- The share of the arrays it reads that SparseCore `c`'s tasks have, -/
def shC (c : Fin 2) : PosShare TreeShare := dealOf fullShare Finset.univ c
/-- that its subcore `s` has, -/
def shT (c : Fin 2) (s : Fin 16) : PosShare TreeShare := dealOf (shC c) Finset.univ s
/-- and that each of the subcore's four copies of the pairs has. -/
def shP (c : Fin 2) (s : Fin 16) (j : Fin 4) : PosShare TreeShare := dealOf (shT c s) Finset.univ j

/-- The kernel's arrays on device `d`: the table, the pairs, the scale and the result. -/
abbrev tabLoc (d : Dev nD) : Loc nD τ sig := (SparseCore.T d).loc main_v1
abbrev pairsLoc (d : Dev nD) : Loc nD τ sig := (SparseCore.T d).loc main_v3
abbrev cLoc (d : Dev nD) : Loc nD τ sig := (SparseCore.T d).loc main_v4
abbrev outLoc (d : Dev nD) : Loc nD τ sig := (SparseCore.T d).loc main_v5

section Shares
variable (tab : S400000.Idx → F .f32) (P : S4x2x384x3x8x128.Idx → F .f32) (cv : S16.Idx → F .f32) (f : S4x384x3x4x128.Idx → F .f32)

/-- What a task is handed of the arrays, and hands back: its read shares, and its pieces of the result at `f`. -/
def taskRes (c : Fin 2) (s : Fin 16) : sProp (MM F) :=
  iprop((tabLoc d ↦{shT c s} tab) ∗ (cLoc d ↦{shT c s} cv) ∗ (pairsLoc d ↦{shT c s} P) ∗ pieces d (gp c s) f)

/-- The share of the pairs is the shares of the four copies. -/
theorem pairs_deal (c : Fin 2) (s : Fin 16) : (pairsLoc d ↦{shT c s} P : sProp (MM F))
    = iprop((pairsLoc d ↦{shP c s 0} P) ∗ (pairsLoc d ↦{shP c s 1} P) ∗ (pairsLoc d ↦{shP c s 2} P) ∗ (pairsLoc d ↦{shP c s 3} P)) := by
  rw [pointsTo_deal (Finset.univ : Finset (Fin 4)) Finset.univ_nonempty (shT c s)]
  conv_lhs => rw [show (Finset.univ : Finset (Fin 4)) = {0, 1, 2, 3} by decide]
  rw [SparseCore.bigSep_insert' (by decide), SparseCore.bigSep_insert' (by decide), SparseCore.bigSep_insert' (by decide), bigSep_singleton]
  rfl

/-- A task's arrays are what its run takes. -/
theorem taskRes_eq (c : Fin 2) (s : Fin 16) : (taskRes d tab P cv f c s : sProp (MM F))
    ⊣⊢ iprop(reads d (gp c s) (shT c s) (shT c s) (shP c s 0) (shP c s 1) (shP c s 2) (shP c s 3) tab P cv ∗ pieces d (gp c s) f) := by
  unfold taskRes reads
  rw [pairs_deal]
  constructor
  · iintro ⟨H0, H1, ⟨H2, H3, H4, H5⟩, H⟩
    isplitr [H]
    · isplitl [H0]; · iexact H0
      isplitl [H1]; · iexact H1
      isplitl [H2]; · iexact H2
      isplitl [H3]; · iexact H3
      isplitl [H4]; · iexact H4
      iexact H5
    · iexact H
  · iintro ⟨⟨H0, H1, H2, H3, H4, H5⟩, H⟩
    isplitl [H0]; · iexact H0
    isplitl [H1]; · iexact H1
    isplitr [H]
    · isplitl [H2]; · iexact H2
      isplitl [H3]; · iexact H3
      isplitl [H4]; · iexact H4
      iexact H5
    · iexact H

/-- The elements of the result that subcore `w` writes. -/
def share (w : ℕ) : Finset S4x384x3x4x128.Idx := Finset.univ.filter fun x => ownerOf x = w

/-- A points-to over a set is those over two parts it is made of, -/
theorem pts_two {ℓ : Loc nD τ sig} (A B S : Finset (Idx ℓ)) (g : Buf (Elt F) ℓ) (hd : ∀ x, x ∈ A → x ∉ B) (hu : ∀ x, x ∈ S ↔ x ∈ A ∨ x ∈ B) :
    (iprop((ℓ ↦[A]{fullShare} g) ∗ (ℓ ↦[B]{fullShare} g)) : sProp (MM F)) = (ℓ ↦[S]{fullShare} g) := by
  classical
  rw [show S = A ∪ B from Finset.ext fun x => (hu x).trans Finset.mem_union.symm]
  have hd' : Disjoint A B := Finset.disjoint_left.mpr fun x => hd x
  exact BI.equiv_iff.mp ⟨(pointsTo_union hd').2, (pointsTo_union hd').1⟩

/-- or over as many as it has. -/
theorem pts_many {ℓ : Loc nD τ sig} {I : Type} [Fintype I] (A : I → Finset (Idx ℓ)) (S : Finset (Idx ℓ)) (g : Buf (Elt F) ℓ)
    (hd : ∀ i j x, x ∈ A i → x ∈ A j → i = j) (hu : ∀ x, x ∈ S ↔ ∃ i, x ∈ A i) :
    (ℓ ↦[S]{fullShare} g : sProp (MM F)) = bigSep Finset.univ fun i => ℓ ↦[A i]{fullShare} g := by
  classical
  rw [show S = Finset.univ.biUnion A from Finset.ext fun x => (hu x).trans (by simp)]
  exact pointsTo_biUnion Finset.univ A fun i _ j _ hij => Finset.disjoint_left.mpr fun x hi hj => hij (hd i j x hi hj)

theorem mem_share {w : ℕ} {x : S4x384x3x4x128.Idx} : x ∈ share w ↔ ownerOf x = w := by simp [share]

/-- A subcore's two pieces are what it writes. -/
theorem pieces_eq : (pieces d i f : sProp (MM F)) = (outLoc d ↦[share (wid i)]{fullShare} f) :=
  pts_two (ℓ := outLoc d) (piece (wid i) 0) (piece (wid i) 1) (share (wid i)) f
    (fun x h0 h1 => absurd ((mem_piece.mp h0).2.symm.trans (mem_piece.mp h1).2) (by decide))
    (fun x => by
      refine mem_share.trans (Iff.trans ?_ (or_congr mem_piece.symm mem_piece.symm))
      have : slotOf x < 2 := by unfold slotOf; omega
      omega)

theorem ownerOf_lt (x : S4x384x3x4x128.Idx) : ownerOf x < 32 := by
  have h0 : (x 0).val < 4 := (x 0).isLt
  have h1 : (x 1).val < 384 := (x 1).isLt
  have h3 : (x 3).val < 4 := (x 3).isLt
  unfold ownerOf; omega

/-- What SparseCore `c`'s subcores write. -/
def shareC (c : ℕ) : Finset S4x384x3x4x128.Idx := Finset.univ.filter fun x => ownerOf x % 2 = c

theorem mem_shareC {c : ℕ} {x : S4x384x3x4x128.Idx} : x ∈ shareC c ↔ ownerOf x % 2 = c := by simp [shareC]

theorem wid_gp (c : Fin 2) (s : Fin 16) : wid (gp c s) = 2 * s.val + c.val := rfl

/-- The result is the subcores' pieces of it. -/
theorem out_deal : (outLoc d ↦{fullShare} f : sProp (MM F)) = bigSep Finset.univ fun c : Fin 2 => bigSep Finset.univ fun s : Fin 16 => pieces d (gp c s) f := by
  refine (pts_many (ℓ := outLoc d) (fun c : Fin 2 => shareC c.val) Finset.univ f
    (fun c c' x h h' => Fin.ext ((mem_shareC.mp h).symm.trans (mem_shareC.mp h')))
    (fun x => ⟨fun _ => ⟨⟨ownerOf x % 2, by omega⟩, mem_shareC.mpr rfl⟩, fun _ => Finset.mem_univ _⟩)).trans ?_
  refine bigSep_congr fun c _ => ?_
  refine (pts_many (ℓ := outLoc d) (fun s : Fin 16 => share (wid (gp c s))) (shareC c.val) f
    (fun s s' x h h' => Fin.ext (by have h0 := mem_share.mp h; have h1 := mem_share.mp h'; rw [wid_gp] at h0 h1; omega))
    (fun x => ?_)).trans ?_
  · refine mem_shareC.trans ⟨fun h => ⟨⟨ownerOf x / 2, by have := ownerOf_lt x; omega⟩, mem_share.mpr ?_⟩, fun ⟨s, h⟩ => ?_⟩
    · rw [wid_gp]; dsimp only; omega
    · have h0 := mem_share.mp h; rw [wid_gp] at h0; have := c.isLt; omega
  · exact bigSep_congr fun s _ => (pieces_eq d (gp c s) f).symm

/-- An array read whole is the subcores' shares of it. -/
theorem read_deal (ℓ : Loc nD τ sig) (g : Buf (Elt F) ℓ) : (ℓ ↦{fullShare} g : sProp (MM F))
    = bigSep Finset.univ fun c : Fin 2 => bigSep Finset.univ fun s : Fin 16 => ℓ ↦{shT c s} g := by
  rw [pointsTo_deal (Finset.univ : Finset (Fin 2)) Finset.univ_nonempty fullShare]
  refine bigSep_congr fun c _ => ?_
  exact pointsTo_deal (Finset.univ : Finset (Fin 16)) Finset.univ_nonempty (shC c)

/-- The kernel's arrays are its tasks' shares of them. -/
theorem arrays_deal : (iprop((tabLoc d ↦{fullShare} tab) ∗ (cLoc d ↦{fullShare} cv) ∗ (pairsLoc d ↦{fullShare} P) ∗ (outLoc d ↦{fullShare} f)) : sProp (MM F))
    = bigSep Finset.univ fun c : Fin 2 => bigSep Finset.univ fun s : Fin 16 => taskRes d tab P cv f c s := by
  rw [read_deal (tabLoc d), read_deal (cLoc d), read_deal (pairsLoc d), out_deal]
  unfold taskRes
  simp only [bigSep_sep']

end Shares

end Cert.Proof.K
-- ==== Proof.Calls.lean ====
/-
  The arrays @main computes before and after the kernel's call, what the call hands each task, and that each task run from
  what it is handed gives it back with its pieces of the result written.
-/
module

public import proofs.«01_k».proof.Proof.Launch

@[expose] public section

set_option maxRecDepth 65536

noncomputable section

namespace Cert.Proof.K

open Cert.KernelIdeal Cert.KernelIdeal.Gen

open Idealize.ShloMosaic
open Idealize.ShloMosaic.SparseCore (S V T)
open Idealize.ShloMosaic.SparseCore.Cfg (HIx Pay ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)
open Idealize.ShloMosaic.Rounds
open Idealize.ShloMosaic.StableHlo (after)

variable {F : FTy → Type} [FloatOps F]

variable (m : (ℓ : Loc nD τ sig) → Buf (Elt F) ℓ)

/-! ## The arrays -/

/-- @main's operations before the call: the table transposed and flattened, -/
abbrev op0 : HloOp τ sig (Elt F) := StableHlo.unary main_arg0 main_v0 ((transpose S4x100000 [1, 0] · transposes_S100000x4_S4x100000_1_0) : (⟨S100000x4, .f32⟩ : BufTy).Contents (Elt F) → (⟨S4x100000, .f32⟩ : BufTy).Contents (Elt F))
abbrev op1 : HloOp τ sig (Elt F) := StableHlo.reshape main_v0 main_v1 (rfl : (.f32 : EltTy) = .f32) shapeCasts_S4x100000_S400000
/-- the pairs' points cut in blocks, the pairs' number put before the point in the block, -/
abbrev op2 : HloOp τ sig (Elt F) := StableHlo.reshape main_arg1 main_v2 (rfl : (.f32 : EltTy) = .f32) shapeCasts_S4x2x384x384x8_S4x2x384x3x128x8
abbrev op3 : HloOp τ sig (Elt F) := StableHlo.unary main_v2 main_v3 ((transpose S4x2x384x3x8x128 [0, 1, 2, 3, 5, 4] · transposes_S4x2x384x3x128x8_S4x2x384x3x8x128_0_1_2_3_5_4) : (⟨S4x2x384x3x128x8, .f32⟩ : BufTy).Contents (Elt F) → (⟨S4x2x384x3x8x128, .f32⟩ : BufTy).Contents (Elt F))
/-- the scale repeated. -/
abbrev op4 : HloOp τ sig (Elt F) := StableHlo.unary main_arg2 main_v4 (broadcastInDim S16 ![0] bcast_S1_S16_0 : (⟨S1, .f32⟩ : BufTy).Contents (Elt F) → (⟨S16, .f32⟩ : BufTy).Contents (Elt F))
/-- And after it: the channel put last, the blocks of points joined. -/
abbrev op6 : HloOp τ sig (Elt F) := StableHlo.unary main_v5 main_v6 ((transpose S4x384x3x128x4 [0, 1, 2, 4, 3] · transposes_S4x384x3x4x128_S4x384x3x128x4_0_1_2_4_3) : (⟨S4x384x3x4x128, .f32⟩ : BufTy).Contents (Elt F) → (⟨S4x384x3x128x4, .f32⟩ : BufTy).Contents (Elt F))
abbrev op7 : HloOp τ sig (Elt F) := StableHlo.reshape main_v6 main_v7 (rfl : (.f32 : EltTy) = .f32) shapeCasts_S4x384x3x128x4_S4x384x384x4

/-- The flattened table, a channel after another; -/
def TAB (d : Dev nD) : S400000.Idx → F .f32 :=
  shapeCast S400000 (transpose S4x100000 [1, 0] (m ((SparseCore.T d).loc main_arg0)) transposes_S100000x4_S4x100000_1_0 : FVec F S4x100000 .f32) shapeCasts_S4x100000_S400000
/-- the pairs as the kernel reads them; -/
def PAIRS (d : Dev nD) : S4x2x384x3x8x128.Idx → F .f32 :=
  transpose S4x2x384x3x8x128 [0, 1, 2, 3, 5, 4] (shapeCast S4x2x384x3x128x8 (m ((SparseCore.T d).loc main_arg1) : FVec F S4x2x384x384x8 .f32) shapeCasts_S4x2x384x384x8_S4x2x384x3x128x8 : FVec F S4x2x384x3x128x8 .f32)
    transposes_S4x2x384x3x128x8_S4x2x384x3x8x128_0_1_2_3_5_4
/-- the scale, sixteen times; -/
def SCALE (d : Dev nD) : S16.Idx → F .f32 := broadcastInDim S16 ![0] bcast_S1_S16_0 (m ((SparseCore.T d).loc main_arg2) : FVec F S1 .f32)
/-- the kernel's result; -/
def OUT (d : Dev nD) : S4x384x3x4x128.Idx → F .f32 := outAt (k0_pay45 (SCALE m d)) (TAB m d) (PAIRS m d)
/-- and @main's. -/
def RES (d : Dev nD) : S4x384x384x4.Idx → F .f32 :=
  shapeCast S4x384x384x4 (transpose S4x384x3x128x4 [0, 1, 2, 4, 3] (OUT m d) transposes_S4x384x3x4x128_S4x384x3x128x4_0_1_2_4_3 : FVec F S4x384x3x128x4 .f32) shapeCasts_S4x384x3x128x4_S4x384x384x4

/-- The kernel's result before the call. -/
def OLD (d : Dev nD) : S4x384x3x4x128.Idx → F .f32 := m (outLoc d)

/-- What the launch starts from, -/
def V0 (d : Dev nD) : Valuation τ sig (Elt F) := fun b => m (d, b)
/-- what the operations before the call leave, -/
def V1 (d : Dev nD) : Valuation τ sig (Elt F) := after [op0, op1, op2, op3, op4] (V0 m d)
/-- what the call leaves, -/
def V2 (d : Dev nD) : Valuation τ sig (Elt F) := Function.update (V1 m d) (Proc.devRef .tc (main_v5 : Ref sig .tc)) (OUT m d)
/-- and what @main leaves. -/
def V3 (d : Dev nD) : Valuation τ sig (Elt F) := after [op6, op7] (V2 m d)

section Values
open Idealize.ShloMosaic.StableHlo

theorem V1_tab (d : Dev nD) : V1 m d (Proc.devRef .tc (main_v1 : Ref sig .tc)) = TAB m d := by unfold V1; after_results; rfl
theorem V1_pairs (d : Dev nD) : V1 m d (Proc.devRef .tc (main_v3 : Ref sig .tc)) = PAIRS m d := by unfold V1; after_results; rfl
theorem V1_scale (d : Dev nD) : V1 m d (Proc.devRef .tc (main_v4 : Ref sig .tc)) = SCALE m d := by unfold V1; after_results; rfl
theorem V1_out (d : Dev nD) : V1 m d (Proc.devRef .tc (main_v5 : Ref sig .tc)) = OLD m d := by unfold V1; after_results; rfl
theorem V2_out (d : Dev nD) : V2 m d (Proc.devRef .tc (main_v5 : Ref sig .tc)) = OUT m d := Function.update_self _ _ _
theorem V2_ne (d : Dev nD) {b : DevRef τ sig} (h : b ≠ Proc.devRef .tc (main_v5 : Ref sig .tc)) : V2 m d b = V1 m d b := Function.update_of_ne h _ _

/-- @main leaves its arguments as they were, -/
theorem V3_arg0 (d : Dev nD) : V3 m d (Proc.devRef .tc (main_arg0 : Ref sig .tc)) = m ((SparseCore.T d).loc main_arg0) := by
  unfold V3; after_results; rw [V2_ne m d (by decide)]; unfold V1; after_results; rfl
theorem V3_arg1 (d : Dev nD) : V3 m d (Proc.devRef .tc (main_arg1 : Ref sig .tc)) = m ((SparseCore.T d).loc main_arg1) := by
  unfold V3; after_results; rw [V2_ne m d (by decide)]; unfold V1; after_results; rfl
theorem V3_arg2 (d : Dev nD) : V3 m d (Proc.devRef .tc (main_arg2 : Ref sig .tc)) = m ((SparseCore.T d).loc main_arg2) := by
  unfold V3; after_results; rw [V2_ne m d (by decide)]; unfold V1; after_results; rfl
/-- and its result at `RES`. -/
theorem V3_res (d : Dev nD) : V3 m d (Proc.devRef .tc (main_v7 : Ref sig .tc)) = RES m d := by
  unfold V3; after_results; rw [V2_out]; rfl

end Values

/-! ## What the call hands its tasks -/

/-- The pairs' row numbers lie in the table, on every device. -/
def InTable : Prop := ∀ d : Dev nD, ∀ x, (x 1).val = 1 → (FloatOps.fptosi 32 (PAIRS m d x) : BitVec 32).toNat < 100000

/-- A task is handed its shares of the arrays and hands them back with its pieces of the result written; a SparseCore all
    its tasks' at once. -/
def P : (K (F := F)).Pay (nD := nD) (Val := Elt F) (Name := ℕ) (U := UU) where
  st := fun q d c => match q with
    | 0 => bigSep Finset.univ fun s : Fin 16 => taskRes d (TAB m d) (PAIRS m d) (SCALE m d) (OLD m d) c s
  dn := fun q d c => match q with
    | 0 => bigSep Finset.univ fun s : Fin 16 => taskRes d (TAB m d) (PAIRS m d) (SCALE m d) (OUT m d) c s
  go := fun q d c s => match q with
    | 0 => taskRes d (TAB m d) (PAIRS m d) (SCALE m d) (OLD m d) c s
  td := fun q d c s => match q with
    | 0 => taskRes d (TAB m d) (PAIRS m d) (SCALE m d) (OUT m d) c s
  x := fun _ _ => iprop(emp)

instance taskRes_storable (d : Dev nD) (tab) (P) (cv) (f) (c : Fin 2) (s : Fin 16) :
    BI.Storable (upEmb : UEmb _ (MM F)) (taskRes d tab P cv f c s) := by unfold taskRes pieces; infer_instance

instance P_storable : (P (F := F) m).IsStorable where
  st q d c := match q with
    | 0 => (inferInstance : BI.Storable (upEmb : UEmb _ (MM F)) (bigSep Finset.univ fun s : Fin 16 => taskRes d (TAB m d) (PAIRS m d) (SCALE m d) (OLD m d) c s))
  dn q d c := match q with
    | 0 => (inferInstance : BI.Storable (upEmb : UEmb _ (MM F)) (bigSep Finset.univ fun s : Fin 16 => taskRes d (TAB m d) (PAIRS m d) (SCALE m d) (OUT m d) c s))
  go q d c s := match q with
    | 0 => taskRes_storable d (TAB m d) (PAIRS m d) (SCALE m d) (OLD m d) c s
  td q d c s := match q with
    | 0 => taskRes_storable d (TAB m d) (PAIRS m d) (SCALE m d) (OUT m d) c s

/-- A task runs from what it is handed. -/
theorem task_run (hin : InTable m) (d : Dev nD) (c : Fin 2) (s : Fin 16) (O : CellTallies nD τ sig (HIx 1)) (W : Waits sig (HIx 1)) (hO : ∀ g, O g none = 0) :
    iprop(levAts (K (F := F)).L (K (F := F)).lev ∗ emp ∗ taskRes d (TAB m d) (PAIRS m d) (SCALE m d) (OLD m d) c s
        ∗ scopedBufs (thr d (gp c s)) ∗ scopedSems0 (thr d (gp c s)) ∗ owes (thr d (gp c s)) O W)
      ⊢ wp (M := MM F) frame (wpE (defs₀ (F := F)) 𝒱₀ (thr d (gp c s)) none) Set.univ
          (cc0_gauss_sc (gp c s) mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1)
          fun _ => iprop(taskRes d (TAB m d) (PAIRS m d) (SCALE m d) (OUT m d) c s ∗ scopedBufs (thr d (gp c s)) ∗ scopedSems0 (thr d (gp c s))
            ∗ ∃ W', ⌜∀ p ∈ W', p ∈ W ∨ p.2 = none⌝ ∗ owes (thr d (gp c s)) O W') := by
  have e := eq_of_equiv (taskRes_eq (F := F) d (TAB m d) (PAIRS m d) (SCALE m d) (OLD m d) c s)
  have e' := eq_of_equiv (taskRes_eq (F := F) d (TAB m d) (PAIRS m d) (SCALE m d) (OUT m d) c s)
  have eb := eq_of_equiv (ownBufs_thr (F := F) d (gp c s))
  have es := eq_of_equiv (ownSems0_thr (F := F) d (gp c s))
  rw [(K (F := F)).scopedBufs_V facts d _ _, SparseCore.Cfg.scopedSems0_V (Val := Elt F) d _ _, e, e']
  change _ ⊢ wp _ _ _ _ fun _ => iprop(_ ∗ ownBufs (thr d (gp c s)) ∗ ownSems0 (thr d (gp c s)) ∗ _)
  rw [eb, es]
  refine BI.Entails.trans ?_ ((BI.sep_mono (tile_run d (gp c s) (shT c s) (shT c s) (shP c s 0) (shP c s 1) (shP c s 2) (shP c s 3) (TAB m d) (PAIRS m d) (SCALE m d) O W (hin d) (OLD m d))
    (BI.Entails.refl (iprop(restBufs d (gp c s) ∗ restSems d (gp c s)) : sProp (MM F)))).trans ((wp_frame_r _ _ _).trans (wp_mono _ _ _ fun _ => ?_)))
  · change _ ⊢ iprop((MayWaits (thr d (gp c s)) (none : HIx 1) O
      ∗ reads d (gp c s) (shT c s) (shT c s) (shP c s 0) (shP c s 1) (shP c s 2) (shP c s 3) (TAB m d) (PAIRS m d) (SCALE m d)
      ∗ pieces d (gp c s) (OLD m d) ∗ bufs d (gp c s) ∗ sems d (gp c s) ∗ owing d (gp c s) O W) ∗ (restBufs d (gp c s) ∗ restSems d (gp c s)))
    iintro ⟨#Hlv, -, ⟨Hr, Hp⟩, ⟨Hb, Hbr⟩, ⟨Hs, Hsr⟩, HO⟩
    ihave Hmw := ((K (F := F)).mayWaits_none (thr := thr d (gp c s)) hO) $$ Hlv
    isplitr [Hbr Hsr]
    · isplitl [Hmw]; · iexact Hmw
      isplitl [Hr]; · iexact Hr
      isplitl [Hp]; · iexact Hp
      isplitl [Hb]; · iexact Hb
      isplitl [Hs]; · iexact Hs
      unfold owing
      iexists W
      isplitr
      · ipureintro; exact fun p hp => Or.inl hp
      · iexact HO
    · isplitl [Hbr]; · iexact Hbr
      iexact Hsr
  · iintro ⟨⟨Hr, Hp, Hb, Hs, HO⟩, Hbr, Hsr⟩
    isplitl [Hr Hp]
    · isplitl [Hr]; · iexact Hr
      iexact Hp
    isplitl [Hb Hbr]
    · isplitl [Hb]; · iexact Hb
      iexact Hbr
    isplitl [Hs Hsr]
    · isplitl [Hs]; · iexact Hs
      iexact Hsr
    unfold owing; iexact HO

/-- What a call leaves a task is what the launch asks. -/
theorem obl_post {u : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes u O W')
      ⊢ iprop(A ∗ B ∗ C ∗ ∃ W', ⌜∀ p ∈ W', p ∈ W ∨ p.2 = none ∨ p.2 = some q⌝ ∗ owes u O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0_gauss_sc (gp c s) mTab (Memref.isWhole_whole _) mPairs (Memref.isWhole_whole _) mC (Memref.isWhole_whole _) mOut (Memref.isWhole_whole _)
            mCol (Memref.isWhole_whole _) mD0 (Memref.isWhole_whole _) mD1 (Memref.isWhole_whole _) mI0 (Memref.isWhole_whole _) mI1 (Memref.isWhole_whole _)
            mO0 (Memref.isWhole_whole _) mO1 (Memref.isWhole_whole _) mCv (Memref.isWhole_whole _)
            cc0_scratch8 cc0_scratch9 cc0_scratch10 cc0_scratch11 cc0_scratch12 cc0_scratch13 cc0_scoped0 cc0_scoped1) ⟨⟩ c s := rfl

/-- The tasks of the call run. -/
theorem tileObl (hin : InTable m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]
  simp only [SparseCore.onTile, hc, and_self, ↓reduceDIte]
  exact (task_run m hin d c s O W hO).trans (wp_mono _ _ _ fun _ => obl_post)

/-- A SparseCore's shares are its tasks'. -/
theorem vecSplit : (K (F := F)).VecSplit' (P m) 0 := by
  intro d c
  show (bigSep Finset.univ fun s : Fin 16 => taskRes d (TAB m d) (PAIRS m d) (SCALE m d) (OLD m d) c s)
    ⊢ |={Set.univ}=> iprop((bigSep Finset.univ fun s : Fin 16 => taskRes d (TAB m d) (PAIRS m d) (SCALE m d) (OLD m d) c s)
      ∗ ((bigSep Finset.univ fun s : Fin 16 => taskRes d (TAB m d) (PAIRS m d) (SCALE m d) (OUT m d) c s)
        -∗ bigSep Finset.univ fun s : Fin 16 => taskRes d (TAB m d) (PAIRS m d) (SCALE m d) (OUT m d) c s))
  iintro H
  imodintro
  isplitl [H]; · iexact H
  iintro H; iexact H

end Cert.Proof.K
-- ==== Proof.Main.lean ====
/-
  @main: the operations before the kernel's call, the call, the operations after it; and the run of the whole program.
-/
module

public import proofs.«01_k».proof.Proof.Calls

@[expose] public section

set_option maxRecDepth 65536

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held wp_hlo_within)

variable {F : FTy → Type} [FloatOps F]

variable (m : (ℓ : Loc nD τ sig) → Buf (Elt F) ℓ) (ρ : Dev nD → PrngReg)

/-! ## The launch's own resource -/

theorem bigSep_emp' {I : Type} [DecidableEq I] (s : Finset I) : (bigSep s fun _ => (iprop(emp) : sProp (MM F))) = iprop(emp) := bigSep_emp_const s

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun u : Thread nD τ => bigSep Finset.univ fun q : Fin 1 => (P m).x q u) := by
  unfold u₀
  iintro Hu
  ihave H := (ownU_pair _ _) $$ Hu
  icases H with ⟨HH, -⟩
  imodintro
  isplitl [HH]; · iexact HH
  have hx : (bigSep Finset.univ fun u : Thread nD τ => bigSep Finset.univ fun q : Fin 1 => (P m).x q u) = iprop(emp) := by
    show (bigSep Finset.univ fun _ : Thread nD τ => bigSep Finset.univ fun _ : Fin 1 => (iprop(emp) : sProp (MM F))) = iprop(emp)
    rw [bigSep_congr fun _ _ => bigSep_emp' _, bigSep_emp']
  rw [hx]
  isplitr
  · rw [bigSep_emp']; iempintro
  · iempintro

/-! ## The TensorCore's arrays -/

/-- The TensorCore's arrays. -/
def arrRefs : List (Ref sig .tc) := [main_v1, main_v4, main_v3, main_v5, main_arg0, main_arg1, main_arg2, main_v0, main_v2, main_v6, main_v7]
def arrs : Finset (DevRef τ sig) := (arrRefs.map fun b => (Proc.devRef .tc b : DevRef τ sig)).toFinset

/-- Each operation's arrays are among them. -/
theorem sub0 : (op0 (F := F)).bufs ⊆ arrs := show ({Proc.devRef .tc main_arg0, Proc.devRef .tc main_v0} : Finset (DevRef τ sig)) ⊆ arrs by decide
theorem sub1 : (op1 (F := F)).bufs ⊆ arrs := show ({Proc.devRef .tc main_v0, Proc.devRef .tc main_v1} : Finset (DevRef τ sig)) ⊆ arrs by decide
theorem sub2 : (op2 (F := F)).bufs ⊆ arrs := show ({Proc.devRef .tc main_arg1, Proc.devRef .tc main_v2} : Finset (DevRef τ sig)) ⊆ arrs by decide
theorem sub3 : (op3 (F := F)).bufs ⊆ arrs := show ({Proc.devRef .tc main_v2, Proc.devRef .tc main_v3} : Finset (DevRef τ sig)) ⊆ arrs by decide
theorem sub4 : (op4 (F := F)).bufs ⊆ arrs := show ({Proc.devRef .tc main_arg2, Proc.devRef .tc main_v4} : Finset (DevRef τ sig)) ⊆ arrs by decide
theorem sub6 : (op6 (F := F)).bufs ⊆ arrs := show ({Proc.devRef .tc main_v5, Proc.devRef .tc main_v6} : Finset (DevRef τ sig)) ⊆ arrs by decide
theorem sub7 : (op7 (F := F)).bufs ⊆ arrs := show ({Proc.devRef .tc main_v6, Proc.devRef .tc main_v7} : Finset (DevRef τ sig)) ⊆ arrs by decide

theorem held_V1 (d : Dev nD) : (held (SparseCore.T d) arrs (op4.result (op3.result (op2.result (op1.result (op0.result (V0 m d)))))) : sProp (MM F)) = held (SparseCore.T d) arrs (V1 m d) := rfl
theorem held_V3 (d : Dev nD) : (held (SparseCore.T d) arrs (op7.result (op6.result (V2 m d))) : sProp (MM F)) = held (SparseCore.T d) arrs (V3 m d) := rfl

/-- Held, they are the kernel's four and the rest. -/
theorem held_kernel (d : Dev nD) (W : Valuation τ sig (Elt F)) : (held (SparseCore.T d) arrs W : sProp (MM F))
    ⊣⊢ iprop(((tabLoc d ↦{fullShare} W (Proc.devRef .tc (main_v1 : Ref sig .tc))) ∗ (cLoc d ↦{fullShare} W (Proc.devRef .tc (main_v4 : Ref sig .tc)))
        ∗ (pairsLoc d ↦{fullShare} W (Proc.devRef .tc (main_v3 : Ref sig .tc))) ∗ (outLoc d ↦{fullShare} W (Proc.devRef .tc (main_v5 : Ref sig .tc))))
      ∗ bigSep ((arrRefs.drop 4).map fun b => (Proc.devRef .tc b : DevRef τ sig)).toFinset fun b => ((d, b) : Loc nD τ sig) ↦{fullShare} W b) := by
  have h := peel (fun b : DevRef τ sig => (((d, b) : Loc nD τ sig) ↦{fullShare} W b : sProp (MM F)))
    ((arrRefs.take 4).map fun b => (Proc.devRef .tc b : DevRef τ sig)) arrs (by decide) (by decide)
  have e : (held (SparseCore.T d) arrs W : sProp (MM F)) = _ := h
  rw [e, show arrs \ ((arrRefs.take 4).map fun b => (Proc.devRef .tc b : DevRef τ sig)).toFinset
    = ((arrRefs.drop 4).map fun b => (Proc.devRef .tc b : DevRef τ sig)).toFinset by decide]
  simp only [arrRefs, List.take, List.map_cons, List.map_nil, List.foldr_cons, List.foldr_nil]
  constructor
  · iintro ⟨H0, H1, H2, H3, H⟩
    isplitr [H]
    · isplitl [H0]; · iexact H0
      isplitl [H1]; · iexact H1
      isplitl [H2]; · iexact H2
      iexact H3
    · iexact H
  · iintro ⟨⟨H0, H1, H2, H3⟩, H⟩
    isplitl [H0]; · iexact H0
    isplitl [H1]; · iexact H1
    isplitl [H2]; · iexact H2
    isplitl [H3]; · iexact H3
    iexact H

theorem unscoped_held (d : Dev nD) : (unscopedBufs d (fun b => m ((SparseCore.T d).loc b)) : sProp (MM F)) = held (SparseCore.T d) arrs (V0 m d) := by
  unfold unscopedBufs held arrs
  rw [show (Finset.univ.filter fun b : Ref sig .tc => ¬ b.isScoped) = arrRefs.toFinset by decide,
    show (arrRefs.map fun b => (Proc.devRef .tc b : DevRef τ sig)).toFinset = arrRefs.toFinset.map ⟨Proc.devRef .tc, Proc.devRef_injective _⟩ by decide, bigSep_map]
  rfl

/-- The call's arrays, for the SparseCores. -/
theorem st_eq (d : Dev nD) : (bigSep Finset.univ fun c : Fin ((K (F := F)).nCore 0) => (P m).st 0 d c)
    = iprop((tabLoc d ↦{fullShare} TAB m d) ∗ (cLoc d ↦{fullShare} SCALE m d) ∗ (pairsLoc d ↦{fullShare} PAIRS m d) ∗ (outLoc d ↦{fullShare} OLD m d)) :=
  (arrays_deal d (TAB m d) (PAIRS m d) (SCALE m d) (OLD m d)).symm
theorem dn_eq (d : Dev nD) : (bigSep Finset.univ fun c : Fin ((K (F := F)).nCore 0) => (P m).dn 0 d c)
    = iprop((tabLoc d ↦{fullShare} TAB m d) ∗ (cLoc d ↦{fullShare} SCALE m d) ∗ (pairsLoc d ↦{fullShare} PAIRS m d) ∗ (outLoc d ↦{fullShare} OUT m d)) :=
  (arrays_deal d (TAB m d) (PAIRS m d) (SCALE m d) (OUT m d)).symm

/-- The call changes the result alone. -/
theorem rest_eq (d : Dev nD) :
    (bigSep ((arrRefs.drop 4).map fun b => (Proc.devRef .tc b : DevRef τ sig)).toFinset fun b => (((d, b) : Loc nD τ sig) ↦{fullShare} V2 m d b : sProp (MM F)))
      = bigSep ((arrRefs.drop 4).map fun b => (Proc.devRef .tc b : DevRef τ sig)).toFinset fun b => ((d, b) : Loc nD τ sig) ↦{fullShare} V1 m d b :=
  bigSep_congr fun b hb => by
    rw [V2_ne m d ((by decide : ∀ b ∈ ((arrRefs.drop 4).map fun b => (Proc.devRef .tc b : DevRef τ sig)).toFinset, b ≠ Proc.devRef .tc (main_v5 : Ref sig .tc)) b hb)]

/-- @main, on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (SparseCore.T d) arrs (V3 m d) ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := op0) (S := arrs) sub0) $$ [Hb Hh]
  · isplitl [Hb]; · iexact Hb
    iexact Hh
  iintro ⟨Hb, Hh⟩
  rw [wp_ret]; imodintro
  iapply (wp_hlo_within 𝒱 (SparseCore.T d) none Set.univ (op := op1) (S := arrs) sub1) $$ [Hb Hh]
  · isplitl [Hb]; · iexact Hb
    iexact Hh
  iintro ⟨Hb, Hh⟩
  rw [wp_ret]; imodintro
  iapply (wp_hlo_within 𝒱 (SparseCore.T d) none Set.univ (op := op2) (S := arrs) sub2) $$ [Hb Hh]
  · isplitl [Hb]; · iexact Hb
    iexact Hh
  iintro ⟨Hb, Hh⟩
  rw [wp_ret]; imodintro
  iapply (wp_hlo_within 𝒱 (SparseCore.T d) none Set.univ (op := op3) (S := arrs) sub3) $$ [Hb Hh]
  · isplitl [Hb]; · iexact Hb
    iexact Hh
  iintro ⟨Hb, Hh⟩
  rw [wp_ret]; imodintro
  iapply (wp_hlo_within 𝒱 (SparseCore.T d) none Set.univ (op := op4) (S := arrs) sub4) $$ [Hb Hh]
  · isplitl [Hb]; · iexact Hb
    iexact Hh
  iintro ⟨Hb, Hh⟩
  rw [wp_ret]; imodintro
  -- the call, from the kernel's four arrays
  ihave Hh0 := (Entails.of_eq (held_V1 m d)) $$ Hh
  ihave Hh' := (held_kernel (F := F) d (V1 m d)).1 $$ Hh0
  icases Hh' with ⟨Hk, Hr⟩
  iapply ((K (F := F)).wp_run (D (F := F)) 𝒱 (EH := EH) (P := P m) κ d 0) $$ [Hst Hk Hb Hr Hts]
  isplitr; · iexact Hctx
  isplitl [Hst]; · iexact Hst
  isplitl [Hk]
  · rw [st_eq, V1_tab, V1_scale, V1_pairs, V1_out]
    iexact Hk
  iintro ⟨Hst, Hdn⟩
  ihave Hk := (Entails.of_eq (dn_eq m d)) $$ Hdn
  ihave Hh := (held_kernel (F := F) d (V2 m d)).2 $$ [Hk Hr]
  · rw [rest_eq, V2_out, V2_ne m d (b := Proc.devRef .tc (main_v1 : Ref sig .tc)) (by decide), V2_ne m d (b := Proc.devRef .tc (main_v3 : Ref sig .tc)) (by decide),
      V2_ne m d (b := Proc.devRef .tc (main_v4 : Ref sig .tc)) (by decide), V1_tab, V1_scale, V1_pairs]
    isplitl [Hk]; · iexact Hk
    iexact Hr
  -- the operations after it
  iapply (wp_hlo_within 𝒱 (SparseCore.T d) none Set.univ (op := op6) (S := arrs) sub6) $$ [Hb Hh]
  · isplitl [Hb]; · iexact Hb
    iexact Hh
  iintro ⟨Hb, Hh⟩
  rw [wp_ret]; imodintro
  iapply (wp_hlo_within 𝒱 (SparseCore.T d) none Set.univ (op := op7) (S := arrs) sub7) $$ [Hb Hh]
  · isplitl [Hb]; · iexact Hb
    iexact Hh
  iintro ⟨Hb, Hh⟩
  rw [wp_ret]; imodintro; imodintro
  isplitl [Hst]; · iexact Hst
  isplitl [Hh]
  · ihave H3 := (Entails.of_eq (held_V3 m d)) $$ Hh
    iexact H3
  isplitl [Hb] <;> iassumption

/-! ## The program's run -/

/-- The arrays at the end of @main. -/
def fq (d : Dev nD) (s' : Phys nD τ sig (Elt F)) : Prop := ∀ b ∈ arrs, s'.mem.mem ((d, b) : Loc nD τ sig) = V3 m d b

theorem hfin (d : Dev nD) (s' : Phys nD τ sig (Elt F)) : iprop(held (SparseCore.T d) arrs (V3 m d) ∗ SI s') ⊢ (⌜fq m d s'⌝ : sProp (MM F)) := by
  have h1 : ∀ b ∈ arrs, iprop(held (SparseCore.T d) arrs (V3 m d) ∗ SI s') ⊢ (⌜s'.mem.mem ((d, b) : Loc nD τ sig) = V3 m d b⌝ : sProp (MM F)) := by
    intro b hb
    unfold held
    rw [SparseCore.bigSep_erase' hb]
    iintro ⟨⟨Hx, -⟩, HSI⟩
    ihave H := (SI_pointsTo_agree (st := s') (ℓ := ((d, b) : Loc nD τ sig)) (I := Finset.univ) (q := fullShare) (f := V3 m d b)) $$ [HSI Hx]
    · isplitl [HSI] <;> iassumption
    icases H with %hx
    ipureintro; exact funext fun i => hx i (Finset.mem_univ i)
  intro a ha
  exact fun b hb => h1 b hb a ha

/-- What the run ends in: each device's arguments as they were, its result at `RES`, its semaphores at zero. -/
def QC : PUnit × MemSt nD τ sig (Elt F) → Prop := fun r => (∀ d : Dev nD,
    r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v7) = RES m d) ∧ r.2.sem = fun _ => 0

/-- Every run of the program from rows within the table ends so. -/
theorem run_main [∀ e, Nonempty (Elt F e)] (hin : InTable m) :
    θ_run (Cert.KernelIdeal.defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hin)
    (fun q _ => match q with | 0 => SparseCore.Cfg.VecSplit.of_plain (vecSplit m))
    m ρ main (fun _ => iprop(emp)) (fun d => held (SparseCore.T d) arrs (V3 m d)) (u₀ (F := F)) (sep_elim_left.trans (hu₀ m)) (hmain m ρ) (fq m) (hfin m) (QC m)
    (fun _ h hz => ⟨fun d =>
      have at' : ∀ b ∈ arrRefs, _ := fun b hb => h d (Proc.devRef .tc b) (List.mem_toFinset.mpr (List.mem_map_of_mem hb))
      ⟨(at' main_arg0 (by decide)).trans (V3_arg0 m d), (at' main_arg1 (by decide)).trans (V3_arg1 m d), (at' main_arg2 (by decide)).trans (V3_arg2 m d),
        (at' main_v7 (by decide)).trans (V3_res m d)⟩, hz⟩)

end Cert.Proof.K
-- ==== Proof.Range.lean ====
/-
  The arrays read at an index — the flattened table, the pairs, the scale and @main's result —, and what the
  preconditions say of them: every pair's index names a row of the table, and the scale is not zero.
-/
module

public import proofs.«01_k».proof.Proof.Main
public import proofs.«01_k».proof.Proof.Gen.Pre_in_table
public import proofs.«01_k».proof.Proof.Gen.Pre_in_table_scaled
public import Idealize.ShloMosaic.Lib.ValueIdxCore
public import Idealize.ShloMosaic.Lib.ValueIdxRank6
public import Idealize.ShloMosaic.Lib.ReduceAll

@[expose] public section

set_option maxRecDepth 65536

noncomputable section

namespace Cert.Proof.K

open Cert.KernelIdeal Cert.KernelIdeal.Gen

open Idealize.ShloMosaic

variable {F : FTy → Type} [FloatOps F]

/-! ## Words -/

/-- A word at least 0 and below 100000, read signed, is below 100000 read unsigned. -/
theorem toNat_lt_of_signed {w : BitVec 32} (h0 : IntOp.cmpi .sge w 0#32 = 1#1) (h1 : IntOp.cmpi .slt w 100000#32 = 1#1) : w.toNat < 100000 := by
  unfold IntOp.cmpi at h0 h1
  have hb : ∀ b : Bool, BitVec.ofBool b = 1#1 → b = true := by decide
  have a0 : (0#32 : BitVec 32).sle w = true := hb _ h0
  have a1 : w.slt 100000#32 = true := hb _ h1
  have e0 : (0#32 : BitVec 32).toInt = 0 := by decide
  have e1 : (100000#32 : BitVec 32).toInt = 100000 := by decide
  have b0 : (0 : ℤ) ≤ w.toInt := by rw [← e0]; exact BitVec.sle_iff_toInt_le.1 a0
  have b1 : w.toInt < 100000 := by rw [← e1]; exact BitVec.slt_iff_toInt_lt.1 a1
  rw [BitVec.toInt_eq_toNat_cond] at b0 b1
  have := w.isLt
  split at b0 <;> split at b1 <;> omega

/-- Two bits whose `and` is 1 are both 1. -/
theorem andi_one {a b : BitVec 1} (h : IntOp.andi a b = 1#1) : a = 1#1 ∧ b = 1#1 := by
  revert h; revert a b; decide

/-! ## The arrays at an index -/

/-- The second half of the pairs, an axis dropped, at an index. -/
theorem second_apply {α : Type} (x : S4x2x384x384x8.Idx → α) (h : S4x2x384x384x8.Slices ![0, 1, 0, 0, 0] ⟨5, ![4, 1, 384, 384, 8]⟩)
    (h' : (⟨5, ![4, 1, 384, 384, 8]⟩ : Shape).ShapeCasts ⟨4, ![4, 384, 384, 8]⟩) (b : Fin 4) (r c : Fin 384) (k : Fin 8) :
    shapeCast ⟨4, ![4, 384, 384, 8]⟩ (extractStridedSlice ⟨5, ![4, 1, 384, 384, 8]⟩ ![0, 1, 0, 0, 0] x h) h' (ix4 b r c k) = x (ix5 b 1 r c k) := by
  refine (shapeCast_apply _ h' (ix4 b r c k) (ix5 b 0 r c k) ?_).trans ?_
  · rw [Shape.rowMajor_val_five, Shape.rowMajor_val_four]
    show (((b.val * 1 + 0) * 384 + r.val) * 384 + c.val) * 8 + k.val = ((b.val * 384 + r.val) * 384 + c.val) * 8 + k.val
    omega
  · refine extractStridedSlice_apply _ x h (ix5 b 0 r c k) (ix5 b 1 r c k) fun a => ?_
    match a with
    | ⟨0, _⟩ => show b.val = 0 + b.val; omega
    | ⟨1, _⟩ => rfl
    | ⟨2, _⟩ => show r.val = 0 + r.val; omega
    | ⟨3, _⟩ => show c.val = 0 + c.val; omega
    | ⟨4, _⟩ => show k.val = 0 + k.val; omega

variable (m : (ℓ : Loc nD τ sig) → Buf (Elt F) ℓ)

/-- A pair the kernel reads is the pair @main was given at the block's place. -/
theorem PAIRS_apply (d : Dev nD) (b : Fin 4) (q : Fin 2) (r : Fin 384) (t : Fin 3) (k : Fin 8) (i : Fin 128) :
    PAIRS m d (ix6 b q r t k i)
      = (m ((SparseCore.T d).loc main_arg1) : S4x2x384x384x8.Idx → F .f32) (ix5 b q r ⟨t.val * 128 + i.val, by omega⟩ k) := by
  unfold PAIRS
  refine (transpose_apply _ _ _ (ix6 b q r t k i) (ix6 b q r t i k) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  · refine shapeCast_apply (s := S4x2x384x384x8) _ _ (ix6 b q r t i k) _ ?_
    rw [Shape.rowMajor_val_five, Shape.rowMajor_val_six]
    show (((b.val * 2 + q.val) * 384 + r.val) * 384 + (t.val * 128 + i.val)) * 8 + k.val
      = ((((b.val * 2 + q.val) * 384 + r.val) * 3 + t.val) * 128 + i.val) * 8 + k.val
    omega

/-- The flattened table's element is the table's at the row and the channel. -/
theorem TAB_apply (d : Dev nD) (c : Fin 4) (r : Fin 100000) :
    TAB m d (ix1 ⟨c.val * 100000 + r.val, by omega⟩) = (m ((SparseCore.T d).loc main_arg0) : S100000x4.Idx → F .f32) (ix2 r c) := by
  unfold TAB
  refine (shapeCast_apply _ _ (ix1 ⟨c.val * 100000 + r.val, by omega⟩) (ix2 c r) ?_).trans ?_
  · rw [Shape.rowMajor_val_one, Shape.rowMajor_val_two]
    rfl
  · refine transpose_apply _ _ _ (ix2 c r) (ix2 r c) fun a => ?_
    match a with
    | ⟨0, _⟩ => rfl
    | ⟨1, _⟩ => rfl

/-- Every lane of the scale is the scale. -/
theorem SCALE_apply (d : Dev nD) (j : S16.Idx) : SCALE m d j = (m ((SparseCore.T d).loc main_arg2) : S1.Idx → F .f32) (ix1 0) := by
  unfold SCALE
  refine broadcastInDim_apply _ _ _ j (ix1 0) fun a => ?_
  match a with
  | ⟨0, _⟩ => rfl

/-- @main's result at an index is the kernel's at the block's place. -/
theorem RES_apply (d : Dev nD) (b : Fin 4) (r w : Fin 384) (c : Fin 4) :
    RES m d (ix4 b r w c) = OUT m d (ix5 b r ⟨w.val / 128, by omega⟩ c ⟨w.val % 128, by omega⟩) := by
  unfold RES
  refine (shapeCast_apply _ _ (ix4 b r w c) (ix5 b r ⟨w.val / 128, by omega⟩ ⟨w.val % 128, by omega⟩ c) ?_).trans ?_
  · rw [Shape.rowMajor_val_five, Shape.rowMajor_val_four]
    show (((b.val * 384 + r.val) * 3 + w.val / 128) * 128 + w.val % 128) * 4 + c.val = ((b.val * 384 + r.val) * 384 + w.val) * 4 + c.val
    omega
  · refine transpose_apply _ _ _ _ _ fun a => ?_
    match a with
    | ⟨0, _⟩ => rfl
    | ⟨1, _⟩ => rfl
    | ⟨2, _⟩ => rfl
    | ⟨3, _⟩ => rfl
    | ⟨4, _⟩ => rfl

/-! ## What the preconditions say -/

/-- The scalar shape has one index. -/
instance : Subsingleton (⟨0, ![]⟩ : Shape).Idx := ⟨fun _ _ => funext fun a => a.elim0⟩

/-- The indices' precondition, at one pair. -/
theorem in_table_row {a0 : S100000x4.Idx → F .f32} {a1 : S4x2x384x384x8.Idx → F .f32} {a2 : S1.Idx → F .f32}
    (h : Cert.Pre_in_table.fn (F := F) a0 a1 a2 = fun _ => 1#1) (b : Fin 4) (r c : Fin 384) (k : Fin 8) :
    (FloatOps.fptosi 32 (a1 (ix5 b 1 r c k)) : BitVec 32).toNat < 100000 := by
  have h0 := congrFun h ix0
  unfold Cert.Pre_in_table.fn at h0
  have h1 := andi_one (Host.reduce_andi_all _ _ _ _ _ h0 (ix4 b r c k))
  have e := second_apply a1 Cert.Pre_in_table.Gen.slices_S4x2x384x384x8_S4x1x384x384x8_0_1_0_0_0
    Cert.Pre_in_table.Gen.shapeCasts_S4x1x384x384x8_S4x384x384x8 b r c k
  rw [← e]
  exact toNat_lt_of_signed h1.1 h1.2

/-- The precondition with the scale's says the indices' as well, -/
theorem in_table_of_scaled {a0 : S100000x4.Idx → F .f32} {a1 : S4x2x384x384x8.Idx → F .f32} {a2 : S1.Idx → F .f32}
    (h : Cert.Pre_in_table_scaled.fn (F := F) a0 a1 a2 = fun _ => 1#1) : Cert.Pre_in_table.fn (F := F) a0 a1 a2 = fun _ => 1#1 := by
  funext j
  exact (andi_one (congrFun h j)).1

/-- and that the scale compares unequal to zero. -/
theorem scale_ne {a0 : S100000x4.Idx → F .f32} {a1 : S4x2x384x384x8.Idx → F .f32} {a2 : S1.Idx → F .f32}
    (h : Cert.Pre_in_table_scaled.fn (F := F) a0 a1 a2 = fun _ => 1#1) :
    FloatOps.cmpf .une (a2 (ix1 0)) (Scalar.ofBits .f32 0x00000000#32) = 1#1 :=
  Host.reduce_andi_all _ _ _ _ _ (andi_one (congrFun h ix0)).2 (ix1 0)

/-- Where every pair's index names a row of the table, so does every one the kernel reads. -/
theorem inTable_of (h : ∀ (d : Dev nD) (b : Fin 4) (r c : Fin 384) (k : Fin 8),
    (FloatOps.fptosi 32 ((m ((SparseCore.T d).loc main_arg1) : S4x2x384x384x8.Idx → F .f32) (ix5 b 1 r c k)) : BitVec 32).toNat < 100000) : InTable m := by
  intro d x hx
  have e1 : x 1 = (1 : Fin 2) := Fin.ext hx
  have e : x = ix6 (x 0) (1 : Fin 2) (x 2) (x 3) (x 4) (x 5) := by
    funext a
    match a with
    | ⟨0, _⟩ => rfl
    | ⟨1, _⟩ => exact e1
    | ⟨2, _⟩ => rfl
    | ⟨3, _⟩ => rfl
    | ⟨4, _⟩ => rfl
    | ⟨5, _⟩ => rfl
  have e2 := (congrArg (PAIRS m d) e).trans (PAIRS_apply m d (x 0) 1 (x 2) (x 3) (x 4) (x 5))
  rw [e2]
  exact h ..

end Cert.Proof.K

end
-- ==== Proof.Frames.lean ====
/-
  The frames: every run of the kernel from arguments the preconditions admit, and every run of the reference, ends with
  its arguments unchanged and every counter at zero.
-/
module

public import proofs.«01_k».proof.Defs
public import proofs.«01_k».proof.Proof.Range
public import proofs.«01_k».proof.Proof.Gen.Kernel
public import proofs.«01_k».proof.Proof.Gen.ReferenceIdeal.Run
public import Idealize.ShloMosaic.Init

@[expose] public section

set_option maxRecDepth 65536

noncomputable section

namespace Cert.Proof.K

open Idealize.ShloMosaic Idealize.SL.Sem

/-- The kernel's run over bit patterns, from indices within the table. -/
theorem frame_kernel : Cert.quiescent_Kernel := fun m ρ h =>
  (θ_run Cert.KernelIdeal.defs _ _).mono (fun _ h => ⟨fun c => ⟨(h.1 c).1, (h.1 c).2.1, (h.1 c).2.2.1⟩, h.2⟩)
    (run_main (F := Bits) m ρ (inTable_of m fun d => in_table_row (h d)))

/-- The kernel's run over extended reals, from indices within the table, -/
theorem frame_ideal : Cert.quiescent_KernelIdeal := fun m ρ h =>
  (θ_run Cert.KernelIdeal.defs _ _).mono (fun _ h => ⟨fun c => ⟨(h.1 c).1, (h.1 c).2.1, (h.1 c).2.2.1⟩, h.2⟩)
    (run_main (F := Ideal) m ρ (inTable_of m fun d => in_table_row (h d)))

/-- and from a scale other than zero besides. -/
theorem frame_ideal_scaled : Cert.quiescent_KernelIdeal_pre_in_table_scaled := fun m ρ h =>
  frame_ideal m ρ fun d => in_table_of_scaled (h d)

/-- The reference's run, from any arguments, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and so from those the other precondition admits. -/
theorem frame_reference_scaled : Cert.quiescent_ReferenceIdeal_pre_in_table_scaled := fun m ρ _ => frame_reference m ρ trivial

end Cert.Proof.K

end
-- ==== Proof.Algebra.lean ====
/-
  One pixel over extended reals: the kernel's pixel is the reference's, where the scale is not zero.

  A neighbour's weight is the exponential of minus half the square of its scaled distance. That square is not negative,
  so the weight is a real number and not negative, whatever extended reals the distance and the scale are. The sum of the
  weights and the divisor are then real, and dividing the weighted sum by the divisor is dividing each of its terms.
-/
module

public import proofs.«01_k».proof.Proof.Block
public import Idealize.ShloMosaic.PureOps.Ideal
public import Idealize.ShloMosaic.PureOps.Ideal.Laws

@[expose] public section

set_option maxRecDepth 16384

noncomputable section

namespace Cert.Proof.K

open Idealize.ShloMosaic
open scoped BigOperators

/-! ## The constants -/

theorem cst_two : Ideal.ofBits .f32 0x40000000#32 = ((2 : ℝ) : EReal) := by
  simp [Ideal.ofBits, Ideal.ieee, -EReal.coe_mul]; norm_num
theorem cst_neg_half : Ideal.ofBits .f32 0xBF000000#32 = ((-(1 / 2) : ℝ) : EReal) := by
  simp [Ideal.ofBits, Ideal.ieee, -EReal.coe_mul, -EReal.coe_neg]; norm_num
/-- The constant added to the sum of the weights is a positive real. -/
theorem cst_eps : ∃ e : ℝ, 0 < e ∧ Ideal.ofBits .f32 0x3A83126F#32 = (e : EReal) := by
  refine ⟨8589935 / 2 ^ 33, by norm_num, ?_⟩
  simp [Ideal.ofBits, Ideal.ieee, -EReal.coe_mul]; norm_num

/-! ## A weight -/

/-- A quotient by something other than zero is a product by its inverse. -/
theorem div_ne_zero {x y : EReal} (hy : y ≠ 0) : Ideal.div x y = x * y⁻¹ := by
  unfold Ideal.div; rw [if_neg hy]

/-- Minus half the square of a scaled distance. -/
def expo (c d : EReal) : EReal := -(Ideal.div (Ideal.div d c * Ideal.div d c) ((2 : ℝ) : EReal))

/-- The squared distance times the kernel's scale is minus half the square of the scaled distance. -/
theorem scaled_eq {c : EReal} (hc : c ≠ 0) (d : EReal) : d * d * Ideal.div ((-(1 / 2) : ℝ) : EReal) (c * c) = expo c d := by
  have hcc : c * c ≠ 0 := mul_ne_zero hc hc
  have h2 : ((2 : ℝ) : EReal) ≠ 0 := by exact_mod_cast (two_ne_zero : (2 : ℝ) ≠ 0)
  have hh : ((-(1 / 2) : ℝ) : EReal) = -((2 : ℝ) : EReal)⁻¹ := by
    rw [← EReal.coe_inv, ← EReal.coe_neg]; norm_num
  unfold expo
  rw [div_ne_zero hcc, div_ne_zero h2, div_ne_zero hc, hh, EReal.mul_inv, neg_mul, mul_neg]
  congr 1
  ac_rfl

/-- A weight is a real number and not negative. -/
theorem weight_real (c d : EReal) : ∃ v : ℝ, 0 ≤ v ∧ Ideal.exp (expo c d) = (v : EReal) := by
  have hq : 0 ≤ Ideal.div d c * Ideal.div d c := by
    rcases le_total 0 (Ideal.div d c) with h | h
    · exact mul_nonneg h h
    · rw [← neg_mul_neg]
      have h' : 0 ≤ -Ideal.div d c := by rw [EReal.le_neg]; simpa using h
      exact mul_nonneg h' h'
  have h2 : ((2 : ℝ) : EReal) ≠ 0 := by exact_mod_cast (two_ne_zero : (2 : ℝ) ≠ 0)
  have h2' : (0 : EReal) ≤ ((2 : ℝ) : EReal)⁻¹ := by
    rw [← EReal.coe_inv]; exact_mod_cast (by norm_num : (0 : ℝ) ≤ 2⁻¹)
  have hle : expo c d ≤ 0 := by
    unfold expo
    rw [div_ne_zero h2, EReal.neg_le]
    simpa using mul_nonneg hq h2'
  generalize expo c d = a at hle
  induction a with
  | bot => exact ⟨0, le_refl _, rfl⟩
  | coe r => exact ⟨Real.exp r, (Real.exp_pos r).le, rfl⟩
  | top => exact absurd hle (by simp)

/-! ## The pixel -/

/-- A finite sum times a real that is not negative is the sum of the products. -/
theorem sum_mul_real {n : ℕ} (f : Fin n → EReal) {r : ℝ} (hr : 0 ≤ r) : (∑ k, f k) * (r : EReal) = ∑ k, f k * (r : EReal) := by
  induction n with
  | zero => simp
  | succ n ih =>
    rw [Fin.sum_univ_succ, Fin.sum_univ_succ,
      EReal.right_distrib_of_nonneg_of_ne_top (by exact_mod_cast hr) (EReal.coe_ne_top r), ih]

/-- A sum of reals, in the extended reals, is the real sum. -/
theorem sum_real {n : ℕ} (v : Fin n → ℝ) : (∑ k, (v k : EReal)) = ((∑ k, v k : ℝ) : EReal) := by
  induction n with
  | zero => simp
  | succ n ih => rw [Fin.sum_univ_succ, Fin.sum_univ_succ, ih, EReal.coe_add]

/-- The reference's pixel: the sum of the neighbours' weighted values, each divided by the sum of the weights plus a small
    constant where that sum is positive, else zero. -/
def refPt (c : EReal) (x y : Fin 8 → EReal) : EReal :=
  0 + ∑ k, Scalar.select (Ideal.cmp .ogt (0 + ∑ i, Ideal.exp (expo c (x i))) 0)
    (Ideal.div (y k * Ideal.exp (expo c (x k))) ((0 + ∑ i, Ideal.exp (expo c (x i))) + Ideal.ofBits .f32 0x3A83126F#32)) 0

/-- The kernel's scale of a scale. -/
def kScale (c : EReal) : EReal := Ideal.div (Ideal.ofBits .f32 0xBF000000#32) (c * c)

/-- The kernel's weight of a distance. -/
theorem wt_eq {c : EReal} (hc : c ≠ 0) (d : EReal) : wt (F := Ideal) (kScale c) d = Ideal.exp (expo c d) := by
  rw [← scaled_eq hc d, ← cst_neg_half]; rfl

/-- The kernel's pixel is the reference's. -/
theorem pt_eq {c : EReal} (hc : c ≠ 0) (x y : Fin 8 → EReal) : pt (F := Ideal) (kScale c) x y = refPt c x y := by
  have hz : (z0 : Ideal .f32) = (0 : EReal) := Ideal.ofBits_zero_f32
  have hw : wsum (F := Ideal) (kScale c) x = 0 + ∑ i, Ideal.exp (expo c (x i)) := by
    unfold wsum
    simp only [Ideal.addf_def, wt_eq hc, hz, Fin.sum_univ_eight, zero_add]
  have hx : xsum (F := Ideal) (kScale c) x y = ∑ i, y i * Ideal.exp (expo c (x i)) := by
    unfold xsum
    simp only [Ideal.addf_def, Ideal.mulf_def, wt_eq hc, hz, Fin.sum_univ_eight, zero_add]
    simp only [mul_comm]
  choose v hv hve using fun k => weight_real c (x k)
  obtain ⟨e, he, hee⟩ := cst_eps
  have hs : 0 ≤ ∑ k, v k := Finset.sum_nonneg fun k _ => hv k
  have hp : (∑ k, v k) + e ≠ 0 := by positivity
  unfold pt refPt
  rw [hw, hx, hz]
  show Scalar.select (Ideal.cmp .ogt (0 + ∑ i, Ideal.exp (expo c (x i))) 0)
      (Ideal.div (∑ i, y i * Ideal.exp (expo c (x i))) ((0 + ∑ i, Ideal.exp (expo c (x i))) + Ideal.ofBits .f32 0x3A83126F#32)) 0 = _
  simp only [hve, sum_real, hee, zero_add, ← EReal.coe_add, Ideal.div_coe hp]
  rcases BitVec.eq_zero_or_eq_one (Ideal.cmp .ogt ((∑ k, v k : ℝ) : EReal) 0) with h | h
  · rw [h]; simp [Scalar.select]
  · rw [h]
    show (∑ k, y k * (v k : EReal)) * _ = ∑ k, y k * (v k : EReal) * _
    exact sum_mul_real _ (by positivity)

end Cert.Proof.K

end
-- ==== Proof.Value.lean ====
/-
  The reference's result at an index, over extended reals: the pixel of the index's eight distances and of the table's
  values at its eight rows; and that it is the kernel's.
-/
module

public import proofs.«01_k».proof.Proof.Range
public import proofs.«01_k».proof.Proof.Algebra
public import proofs.«01_k».proof.Proof.Gen.ReferenceIdeal.Run
public import Idealize.ShloMosaic.Lib.IdealHost
public import Idealize.ShloMosaic.Lib.Routing.Ops

@[expose] public section

set_option maxRecDepth 65536

noncomputable section

namespace Cert.Proof.K.Ref

open Cert.ReferenceIdeal Cert.ReferenceIdeal.Gen

open Idealize.ShloMosaic
open scoped BigOperators

variable (a0 : FVec Ideal S100000x4 .f32) (a1 : FVec Ideal S4x2x384x384x8 .f32) (a2 : FVec Ideal S1 .f32)

/-! ## The reference's arrays -/

/-- The distances divided by the scale; -/
def quot : FVec Ideal S4x384x384x8 .f32 :=
  Host.divf (shapeCast S4x384x384x8 (extractStridedSlice S4x1x384x384x8 ![0, 0, 0, 0, 0] a1 slices_S4x2x384x384x8_S4x1x384x384x8_0_0_0_0_0) shapeCasts_S4x1x384x384x8_S4x384x384x8)
    (broadcastInDim S4x384x384x8 ![0, 1, 2, 3] bcast_S1x1x1x1_S4x384x384x8_0_1_2_3 (broadcastInDim S1x1x1x1 ![3] bcast_S1_S1x1x1x1_3 a2))
/-- the weights, a unit axis added; -/
def weight : FVec Ideal S4x384x384x8x1 .f32 :=
  broadcastInDim S4x384x384x8x1 ![0, 1, 2, 3] bcast_S4x384x384x8_S4x384x384x8x1_0_1_2_3
    (Host.exp (Host.negf (Host.divf (mulf (quot a1 a2) (quot a1 a2)) (broadcastInDim S4x384x384x8 ![] bcast_S_S4x384x384x8 (constant S_ .f32 0x40000000#32)))))
/-- the sums of the weights; -/
def total : FVec Ideal S4x384x384x1x1 .f32 :=
  broadcastInDim S4x384x384x1x1 ![0, 1, 2, 3] bcast_S4x384x384x1_S4x384x384x1x1_0_1_2_3
    (Host.reduceAdd (weight a1 a2) (constant S_ .f32 0x00000000#32) reducesTo_S4x384x384x8x1_S4x384x384x1_d3 h_S_)
/-- the pairs' indices, in one row; -/
def index : IVec S4718592 32 :=
  shapeCast S4718592 (fptosi 32 (shapeCast S4x384x384x8 (extractStridedSlice S4x1x384x384x8 ![0, 1, 0, 0, 0] a1 slices_S4x2x384x384x8_S4x1x384x384x8_0_1_0_0_0) shapeCasts_S4x1x384x384x8_S4x384x384x8)) shapeCasts_S4x384x384x8_S4718592
/-- the rows they name, a negative one counted from the table's end, in one column; -/
def wrapped (i : IVec S4718592 32) : IVec S4718592x1 32 :=
  broadcastInDim S4718592x1 ![0] bcast_S4718592_S4718592x1_0
    (select (cmpi .slt i (broadcastInDim S4718592 ![] bcast_S_S4718592 (constantI S_ 32 0#32)))
      (addi i (broadcastInDim S4718592 ![] bcast_S_S4718592 (constantI S_ 32 100000#32))) i)
/-- whether they lie in the table; -/
def inside (j : IVec S4718592x1 32) : IVec S4718592 1 :=
  Host.reduce IntOp.andi
    (andi (cmpi .sge j (broadcastInDim S4718592x1 ![] bcast_S_S4718592x1 (constantI S_ 32 0#32)))
      (cmpi .sle j (broadcastInDim S4718592x1 ![0, 1] bcast_S1x1_S4718592x1_0_1 (broadcastInDim S1x1 ![1] bcast_S1_S1x1_1 (constantI S1 32 99999#32)))))
    (constantI S_ 1 1#1) reducesTo_S4718592x1_S4718592_d1 h_S_
/-- the table's rows taken there; -/
def taken (j : IVec S4718592x1 32) : FVec Ideal S4x384x384x8x4 .f32 :=
  shapeCast S4x384x384x8x4
    (select (broadcastInDim S4718592x4 ![0] bcast_S4718592_S4718592x4_0 (inside j))
      (Host.gather gather_S100000x4_S4718592x1_S4718592x4_1_0_n_n_0_1_14 a0 j)
      (broadcastInDim S4718592x4 ![] bcast_S_S4718592x4 (constant S_ .f32 0x7FC00000#32)))
    shapeCasts_S4718592x4_S4x384x384x8x4
/-- the neighbours' shares of the result; -/
def share : FVec Ideal S4x384x384x8x4 .f32 :=
  select (broadcastInDim S4x384x384x8x4 ![0, 1, 2, 3, 4] bcast_S4x384x384x1x1_S4x384x384x8x4_0_1_2_3_4
        (cmpf .ogt (total a1 a2) (broadcastInDim S4x384x384x1x1 ![] bcast_S_S4x384x384x1x1 (constant S_ .f32 0x00000000#32))))
      (Host.divf
        (mulf (taken a0 (wrapped (index a1))) (broadcastInDim S4x384x384x8x4 ![0, 1, 2, 3, 4] bcast_S4x384x384x8x1_S4x384x384x8x4_0_1_2_3_4 (weight a1 a2)))
        (broadcastInDim S4x384x384x8x4 ![0, 1, 2, 3, 4] bcast_S4x384x384x1x1_S4x384x384x8x4_0_1_2_3_4
          (addf (total a1 a2) (broadcastInDim S4x384x384x1x1 ![] bcast_S_S4x384x384x1x1 (constant S_ .f32 0x3A83126F#32)))))
      (broadcastInDim S4x384x384x8x4 ![] bcast_S_S4x384x384x8x4 (constant S_ .f32 0x00000000#32))
/-- and the result. -/
def result : FVec Ideal S4x384x384x4 .f32 :=
  Host.reduceAdd (share a0 a1 a2) (constant S_ .f32 0x00000000#32) reducesTo_S4x384x384x8x4_S4x384x384x4_d3 h_S_

/-- The reference's run leaves these arrays' result. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) := by
  unfold Value.res_out0 Value.res_main_v29
  rfl

/-! ## The arrays at an index -/

/-- A distance divided by the scale. -/
theorem quot_apply (b : Fin 4) (r w : Fin 384) (k : Fin 8) :
    quot a1 a2 (ix4 b r w k) = Ideal.div (a1 (ix5 b 0 r w k)) (a2 (ix1 0)) := by
  refine congrArg₂ Ideal.div ?_ ?_
  · refine (shapeCast_apply _ _ (ix4 b r w k) (ix5 b 0 r w k) ?_).trans ?_
    · rw [Shape.rowMajor_val_five, Shape.rowMajor_val_four]
      show (((b.val * 1 + 0) * 384 + r.val) * 384 + w.val) * 8 + k.val = ((b.val * 384 + r.val) * 384 + w.val) * 8 + k.val
      omega
    · refine extractStridedSlice_apply _ a1 _ (ix5 b 0 r w k) (ix5 b 0 r w k) fun a => ?_
      match a with
      | ⟨0, _⟩ => show b.val = 0 + b.val; omega
      | ⟨1, _⟩ => rfl
      | ⟨2, _⟩ => show r.val = 0 + r.val; omega
      | ⟨3, _⟩ => show w.val = 0 + w.val; omega
      | ⟨4, _⟩ => show k.val = 0 + k.val; omega
  · refine (broadcastInDim_apply _ _ _ (ix4 b r w k) (ix4 0 0 0 0) fun a => ?_).trans ?_
    · match a with
      | ⟨0, _⟩ => rfl
      | ⟨1, _⟩ => rfl
      | ⟨2, _⟩ => rfl
      | ⟨3, _⟩ => rfl
    · refine broadcastInDim_apply _ _ _ (ix4 0 0 0 0) (ix1 0) fun a => ?_
      match a with
      | ⟨0, _⟩ => rfl

/-- A weight. -/
theorem weight_apply (b : Fin 4) (r w : Fin 384) (k : Fin 8) :
    weight a1 a2 (ix5 b r w k 0) = Ideal.exp (expo (a2 (ix1 0)) (a1 (ix5 b 0 r w k))) := by
  refine (broadcastInDim_apply _ _ _ (ix5 b r w k 0) (ix4 b r w k) fun a => ?_).trans ?_
  · match a with
    | ⟨0, _⟩ => rfl
    | ⟨1, _⟩ => rfl
    | ⟨2, _⟩ => rfl
    | ⟨3, _⟩ => rfl
  · show Ideal.exp (-(Ideal.div (quot a1 a2 (ix4 b r w k) * quot a1 a2 (ix4 b r w k)) (Ideal.ofBits .f32 0x40000000#32))) = _
    rw [quot_apply, cst_two]
    rfl

/-- A sum of weights. -/
theorem total_apply (b : Fin 4) (r w : Fin 384) :
    total a1 a2 (ix5 b r w 0 0) = 0 + ∑ k : Fin 8, Ideal.exp (expo (a2 (ix1 0)) (a1 (ix5 b 0 r w k))) := by
  refine (broadcastInDim_apply _ _ _ (ix5 b r w 0 0) (ix4 b r w 0) fun a => ?_).trans ?_
  · match a with
    | ⟨0, _⟩ => rfl
    | ⟨1, _⟩ => rfl
    | ⟨2, _⟩ => rfl
    | ⟨3, _⟩ => rfl
  · have hr : S4x384x384x8x1.Reduces [3] S4x384x384x1 := by decide
    refine (Ideal.hostReduceAdd_single reducesTo_S4x384x384x8x1_S4x384x384x1_d3 hr (weight a1 a2) (Ideal.ofBits .f32 0x00000000#32) (ix4 b r w 0)).trans ?_
    rw [Ideal.ofBits_zero_f32]
    refine congrArg (0 + ·) (Finset.sum_congr rfl fun k _ => ?_)
    refine (congrArg (weight a1 a2) (funext fun a => Fin.ext ?_)).trans (weight_apply a1 a2 b r w k)
    match a with
    | ⟨0, _⟩ => rfl
    | ⟨1, _⟩ => rfl
    | ⟨2, _⟩ => rfl
    | ⟨3, _⟩ => rfl
    | ⟨4, _⟩ => rfl

/-! ## The table's rows -/

/-- Where a pair stands in the row of pairs. -/
def place (b : Fin 4) (r w : Fin 384) (k : Fin 8) : Fin 4718592 := ⟨((b.val * 384 + r.val) * 384 + w.val) * 8 + k.val, by omega⟩

/-- A pair's index. -/
theorem index_apply (b : Fin 4) (r w : Fin 384) (k : Fin 8) :
    index a1 (ix1 (place b r w k)) = FloatOps.fptosi 32 (a1 (ix5 b 1 r w k)) := by
  refine (shapeCast_apply _ _ (ix1 (place b r w k)) (ix4 b r w k) ?_).trans ?_
  · rw [Shape.rowMajor_val_four, Shape.rowMajor_val_one]
    rfl
  · exact congrArg (FloatOps.fptosi (F := Ideal) 32) (second_apply a1 _ _ b r w k)

/-- An index below the table's height is the row it names, -/
theorem wrapped_apply (i : IVec S4718592 32) (p : Fin 4718592) (h : (i (ix1 p)).toNat < 100000) (x : S4718592x1.Idx) (hx : x = ix2 p 0) : wrapped i x = i (ix1 p) := by
  subst hx
  refine (broadcastInDim_apply _ _ _ (ix2 p 0) (ix1 p) fun a => ?_).trans ?_
  · match a with
    | ⟨0, _⟩ => rfl
  · show Scalar.select (IntOp.cmpi .slt (i (ix1 p)) 0#32) _ (i (ix1 p)) = _
    rw [BitVec.eq_zero_or_eq_one (IntOp.cmpi .slt (i (ix1 p)) 0#32) |>.resolve_right fun e => by
      have := (StableHlo.Predicate.slt_iff_toNat (by omega) (by decide)).1 e
      exact absurd this (by simp)]
    rfl

/-- and lies in the table. -/
theorem inside_apply (i : IVec S4718592 32) (h : ∀ p, (i (ix1 p)).toNat < 100000) (p : S4718592.Idx) : inside (wrapped i) p = 1#1 := by
  refine Host.reduce_andi_one _ _ _ _ p rfl fun x => ?_
  have h1 : x 1 = (0 : Fin 1) := Subsingleton.elim (α := Fin 1) _ _
  have hx : x = ix2 (x 0) (0 : Fin 1) := by
    funext a
    match a with
    | ⟨0, _⟩ => rfl
    | ⟨1, _⟩ => exact h1
  have e : wrapped i x = i (ix1 (x 0)) := wrapped_apply i (x 0) (h _) x hx
  have hl := h (x 0)
  show IntOp.andi (IntOp.cmpi .sge (wrapped i x) 0#32) (IntOp.cmpi .sle (wrapped i x) 99999#32) = 1#1
  rw [e, (StableHlo.Predicate.sge_iff_toNat (by omega) (by decide)).2 (by simp), (StableHlo.Predicate.sle_iff_toNat (by omega) (by decide)).2 (by
    show _ ≤ 99999; omega)]
  rfl

/-- A taken value is the table's at the row the pair's index names. -/
theorem taken_apply (i : IVec S4718592 32) (h : ∀ p, (i (ix1 p)).toNat < 100000) (b : Fin 4) (r w : Fin 384) (k : Fin 8) (c : Fin 4) :
    taken a0 (wrapped i) (ix5 b r w k c) = a0 (ix2 ⟨(i (ix1 (place b r w k))).toNat, h _⟩ c) := by
  refine (shapeCast_apply _ _ (ix5 b r w k c) (ix2 (place b r w k) c) ?_).trans ?_
  · rw [Shape.rowMajor_val_five, Shape.rowMajor_val_two]
    rfl
  · have e1 : broadcastInDim S4718592x4 ![0] bcast_S4718592_S4718592x4_0 (inside (wrapped i)) (ix2 (place b r w k) c) = 1#1 := by
      refine (broadcastInDim_apply _ _ _ (ix2 (place b r w k) c) (ix1 (place b r w k)) fun a => ?_).trans (inside_apply i h _)
      match a with
      | ⟨0, _⟩ => rfl
    show Scalar.select (broadcastInDim S4718592x4 ![0] bcast_S4718592_S4718592x4_0 (inside (wrapped i)) (ix2 (place b r w k) c)) _ _ = _
    rw [e1]
    refine Routing.gather_row _ rfl rfl rfl rfl rfl a0 (wrapped i) (place b r w k) c ⟨(i (ix1 (place b r w k))).toNat, h _⟩ ?_ (by decide)
    exact (wrapped_apply i (place b r w k) (h _) _ rfl).trans (BitVec.eq_of_toNat_eq (by simp))

/-! ## The result -/

/-- Every index in the row of pairs lies in the table when every pair's does. -/
theorem index_lt (h : ∀ (b : Fin 4) (r w : Fin 384) (k : Fin 8), (FloatOps.fptosi 32 (a1 (ix5 b 1 r w k)) : BitVec 32).toNat < 100000)
    (p : Fin 4718592) : (index a1 (ix1 p)).toNat < 100000 := by
  have e : place ⟨p.val / 8 / 384 / 384, by omega⟩ ⟨p.val / 8 / 384 % 384, by omega⟩ ⟨p.val / 8 % 384, by omega⟩ ⟨p.val % 8, by omega⟩ = p :=
    Fin.ext (by show ((p.val / 8 / 384 / 384 * 384 + p.val / 8 / 384 % 384) * 384 + p.val / 8 % 384) * 8 + p.val % 8 = p.val; omega)
  rw [← e, index_apply]
  exact h ..

/-- A choice between a quotient of a product and another value, at an index. -/
theorem select_div_apply {s : Shape} (c : IVec s 1) (x y q z : FVec Ideal s .f32) (i : s.Idx) {c' : BitVec 1} {x' y' q' z' : EReal}
    (hc : c i = c') (hx : x i = x') (hy : y i = y') (hq : q i = q') (hz : z i = z') :
    select c (Host.divf (mulf x y) q) z i = Scalar.select c' (Ideal.div (x' * y') q') z' := by
  subst hc hx hy hq hz
  rfl

/-- A neighbour's share. -/
theorem share_apply (h : ∀ (b : Fin 4) (r w : Fin 384) (k : Fin 8), (FloatOps.fptosi 32 (a1 (ix5 b 1 r w k)) : BitVec 32).toNat < 100000)
    (b : Fin 4) (r w : Fin 384) (k : Fin 8) (c : Fin 4) :
    share a0 a1 a2 (ix5 b r w k c)
      = Scalar.select (Ideal.cmp .ogt (0 + ∑ i : Fin 8, Ideal.exp (expo (a2 (ix1 0)) (a1 (ix5 b 0 r w i)))) 0)
          (Ideal.div (a0 (ix2 ⟨(FloatOps.fptosi 32 (a1 (ix5 b 1 r w k)) : BitVec 32).toNat, h b r w k⟩ c) * Ideal.exp (expo (a2 (ix1 0)) (a1 (ix5 b 0 r w k))))
            ((0 + ∑ i : Fin 8, Ideal.exp (expo (a2 (ix1 0)) (a1 (ix5 b 0 r w i)))) + Ideal.ofBits .f32 0x3A83126F#32)) 0 := by
  have eb : ∀ {α : Type} (f : S4x384x384x1x1.Idx → α),
      broadcastInDim S4x384x384x8x4 ![0, 1, 2, 3, 4] bcast_S4x384x384x1x1_S4x384x384x8x4_0_1_2_3_4 f (ix5 b r w k c) = f (ix5 b r w 0 0) := fun f => by
    refine broadcastInDim_apply _ _ f (ix5 b r w k c) (ix5 b r w 0 0) fun a => ?_
    match a with
    | ⟨0, _⟩ => rfl
    | ⟨1, _⟩ => rfl
    | ⟨2, _⟩ => rfl
    | ⟨3, _⟩ => rfl
    | ⟨4, _⟩ => rfl
  have ew : broadcastInDim S4x384x384x8x4 ![0, 1, 2, 3, 4] bcast_S4x384x384x8x1_S4x384x384x8x4_0_1_2_3_4 (weight a1 a2) (ix5 b r w k c)
      = weight a1 a2 (ix5 b r w k 0) := by
    refine broadcastInDim_apply _ _ _ (ix5 b r w k c) (ix5 b r w k 0) fun a => ?_
    match a with
    | ⟨0, _⟩ => rfl
    | ⟨1, _⟩ => rfl
    | ⟨2, _⟩ => rfl
    | ⟨3, _⟩ => rfl
    | ⟨4, _⟩ => rfl
  have et := total_apply a1 a2 b r w
  unfold share
  refine select_div_apply _ _ _ _ _ _ ?_ ?_ (ew.trans (weight_apply a1 a2 b r w k)) ?_ Ideal.ofBits_zero_f32
  · exact (eb _).trans (congrArg₂ (Ideal.cmp .ogt) et Ideal.ofBits_zero_f32)
  · refine (taken_apply a0 _ (index_lt a1 h) b r w k c).trans (congrArg (fun n => a0 (ix2 n c)) (Fin.ext ?_))
    exact congrArg BitVec.toNat (index_apply a1 b r w k)
  · exact (eb _).trans (congrArg (· + Ideal.ofBits .f32 0x3A83126F#32) et)

/-- The result at an index is the pixel. -/
theorem result_apply (h : ∀ (b : Fin 4) (r w : Fin 384) (k : Fin 8), (FloatOps.fptosi 32 (a1 (ix5 b 1 r w k)) : BitVec 32).toNat < 100000)
    (b : Fin 4) (r w : Fin 384) (c : Fin 4) :
    result a0 a1 a2 (ix4 b r w c)
      = refPt (a2 (ix1 0)) (fun k => a1 (ix5 b 0 r w k)) (fun k => a0 (ix2 ⟨(FloatOps.fptosi 32 (a1 (ix5 b 1 r w k)) : BitVec 32).toNat, h b r w k⟩ c)) := by
  have hr : S4x384x384x8x4.Reduces [3] S4x384x384x4 := by decide
  refine (Ideal.hostReduceAdd_single reducesTo_S4x384x384x8x4_S4x384x384x4_d3 hr (share a0 a1 a2) (Ideal.ofBits .f32 0x00000000#32) (ix4 b r w c)).trans ?_
  rw [Ideal.ofBits_zero_f32]
  refine congrArg (0 + ·) (Finset.sum_congr rfl fun (k : Fin 8) _ => ?_)
  refine (congrArg (share a0 a1 a2) (funext fun a => Fin.ext ?_)).trans (share_apply a0 a1 a2 h b r w k c)
  match a with
  | ⟨0, _⟩ => rfl
  | ⟨1, _⟩ => rfl
  | ⟨2, _⟩ => rfl
  | ⟨3, _⟩ => rfl
  | ⟨4, _⟩ => rfl

end Cert.Proof.K.Ref

namespace Cert.Proof.K

open Cert.KernelIdeal Cert.KernelIdeal.Gen

open Idealize.ShloMosaic

variable (m : (ℓ : Loc nD τ sig) → Buf (Elt Ideal) ℓ)

/-- The table, -/
abbrev tbl (d : Dev nD) : FVec Ideal S100000x4 .f32 := m ((SparseCore.T d).loc main_arg0)
/-- the pairs -/
abbrev prs (d : Dev nD) : FVec Ideal S4x2x384x384x8 .f32 := m ((SparseCore.T d).loc main_arg1)
/-- and the scale the kernel is given. -/
abbrev scl (d : Dev nD) : FVec Ideal S1 .f32 := m ((SparseCore.T d).loc main_arg2)

/-- An element of the kernel's result is the reference's: from indices within the table and a scale other than zero. -/
theorem value_at (d : Dev nD) (hc : scl m d (ix1 0) ≠ (0 : EReal))
    (h : ∀ (b : Fin 4) (r w : Fin 384) (k : Fin 8), (FloatOps.fptosi 32 (prs m d (ix5 b 1 r w k)) : BitVec 32).toNat < 100000)
    (b : Fin 4) (r w : Fin 384) (c : Fin 4) :
    RES (F := Ideal) m d (ix4 b r w c) = Ref.result (tbl m d) (prs m d) (scl m d) (ix4 b r w c) := by
  have hw : (⟨w.val / 128 * 128 + w.val % 128, by omega⟩ : Fin 384) = w := Fin.ext (by show w.val / 128 * 128 + w.val % 128 = w.val; omega)
  refine (RES_apply m d b r w c).trans (Eq.trans ?_ (Ref.result_apply _ _ _ h b r w c).symm)
  refine Eq.trans ?_ (pt_eq hc _ _)
  have es : ∀ l, k0_pay45 (F := Ideal) (SCALE m d) (ix1 l) = kScale (scl m d (ix1 0)) := fun l =>
    congrArg kScale (SCALE_apply m d (ix1 l))
  have ep : ∀ (q : Fin 2) (k : Fin 8), PAIRS m d (ix6 b q r ⟨w.val / 128, by omega⟩ k ⟨w.val % 128, by omega⟩)
      = prs m d (ix5 b q r w k) := fun q k => by
    refine (PAIRS_apply m d b q r ⟨w.val / 128, by omega⟩ k ⟨w.val % 128, by omega⟩).trans ?_
    rw [hw]
  unfold OUT outAt
  refine congr (congrArg₂ (pt (F := Ideal)) (es _) (funext fun k => ep 0 k)) (funext fun k => ?_)
  have er : (row (PAIRS m d (ix6 b 1 r ⟨w.val / 128, by omega⟩ k ⟨w.val % 128, by omega⟩)) 0).val
      = (FloatOps.fptosi 32 (prs m d (ix5 b 1 r w k)) : BitVec 32).toNat := by
    rw [ep]; exact Nat.mod_eq_of_lt (h b r w k)
  refine Eq.trans ?_ (TAB_apply m d c ⟨_, h b r w k⟩)
  refine congrArg (TAB m d) (funext fun a => Fin.ext ?_)
  match a with
  | ⟨0, _⟩ => exact congrArg (c.val * 100000 + ·) er

/-- So the whole results are equal. -/
theorem value_eq (d : Dev nD) (hc : scl m d (ix1 0) ≠ (0 : EReal))
    (h : ∀ (b : Fin 4) (r w : Fin 384) (k : Fin 8), (FloatOps.fptosi 32 (prs m d (ix5 b 1 r w k)) : BitVec 32).toNat < 100000) :
    RES (F := Ideal) m d = Ref.result (tbl m d) (prs m d) (scl m d) := by
  funext j
  have ej : j = ix4 (n0 := 4) (n1 := 384) (n2 := 384) (n3 := 4) (j 0) (j 1) (j 2) (j 3) := by
    funext a
    match a with
    | ⟨0, _⟩ => rfl
    | ⟨1, _⟩ => rfl
    | ⟨2, _⟩ => rfl
    | ⟨3, _⟩ => rfl
  rw [ej]
  exact value_at m d hc h ..

end Cert.Proof.K

end
-- ==== Proof.lean ====
/-
  The certificate: the frames of the kernel and of the reference (Proof/Frames.lean), and that the two leave the same
  result over extended reals, from indices within the table and a scale other than zero (Proof/Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_table
public import proofs.«01_k».proof.Proof.Gen.Pre_in_table_scaled
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem
open K

/-- A scale that compares unequal to zero is not zero. -/
theorem ne_zero_of_cmp {x : EReal} (h : Ideal.cmp .une x (Ideal.ofBits .f32 0x00000000#32) = 1#1) : x ≠ 0 := by
  rintro rfl
  rw [Ideal.ofBits_zero_f32] at h
  simp [Ideal.cmp] at h

/-- The kernel and the reference leave the same result: that of the reference's arrays, from the same arguments. -/
theorem algebraic : Cert.algebraic_KernelIdeal_ReferenceIdeal_pre_in_table_scaled := by
  intro m ρ m' ρ' hpre hag
  have hrow := fun d => in_table_row (F := Ideal) (in_table_of_scaled (hpre d))
  refine ⟨fun d => RES m d, ?_, ?_⟩
  · exact (θ_run Cert.KernelIdeal.defs _ _).mono (fun _ h c => ⟨(h.1 c).2.2.2, (h.1 c).1, (h.1 c).2.1, (h.1 c).2.2.1⟩)
      (run_main (F := Ideal) m ρ (inTable_of m hrow))
  · refine (θ_run Cert.ReferenceIdeal.defs _ _).mono (fun _ h c => ⟨(h c).1.trans ?_, (h c).2⟩) (Cert.ReferenceIdeal.Value.run (F := Ideal) m' ρ')
    refine (Ref.res_eq m' c).trans ?_
    rw [(hag c).1, (hag c).2.1, (hag c).2.2]
    exact (value_eq m c (ne_zero_of_cmp (scale_ne (F := Ideal) (hpre c))) (hrow c)).symm

/-- Every claim the certificate states. -/
theorem claim : Cert.Claim :=
  ⟨Cert.Kernel.Gen.facts, Cert.KernelIdeal.Gen.facts, Cert.ReferenceIdeal.Gen.facts, Cert.Pre_in_table.Gen.facts, Cert.Pre_in_table_scaled.Gen.facts,
    frame_kernel, frame_ideal, frame_ideal_scaled, frame_reference, frame_reference_scaled, trivial, algebraic⟩

end Cert.Proof

end
